-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 4096, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 4096, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x128x4x64 .f32 := (extf .f32 · bitsLt_bf16_f32) main_arg2
  let main_v12 : FVec F S2x128x4x64 .f32 := Host.absf main_v11
  let main_cst_2 : FVec F S_ .f32 := constant S_ .f32 0x7F800000#32
  let main_v13 : FVec F S2x128x4x64 .f32 := broadcastInDim S2x128x4x64 ![] bcast_S_S2x128x4x64 main_cst_2
  let main_v14 : IVec S2x128x4x64 1 := cmpf .olt main_v12 main_v13
  let main_c_3 : IVec S_ 1 := constantI S_ 1 1#1
  let main_v15 : IVec S_ 1 := (fun x v => Host.reduce IntOp.andi x v reducesTo_S2x128x4x64_S_d0_1_2_3 h_S_) main_v14 main_c_3
  let main_v16 : IVec S_ 1 := andi main_v10 main_v15
  main_v16
-- ==== Pre_finite_scores_ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S_ : Shape := ⟨0, ![]⟩

class Facts : Prop where
  bitsLt_bf16_f32 : FTy.bits .bf16 < FTy.bits .f32
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x4096x4x64 : S_.BroadcastsInDim S2x4096x4x64 (![] : Fin 0 → Fin S2x4096x4x64.rank)
  reducesTo_S2x4096x4x64_S_d0_1_2_3 : S2x4096x4x64.ReducesTo [0, 1, 2, 3] S_

variable [Facts]

def fn {F : FTy → Type} [FloatOps F] (main_arg0 : FVec F S2x4096x512 .bf16) (main_arg1 : FVec F S512x256 .bf16) (main_arg2 : FVec F S2x4096x4x64 .bf16) (main_arg3 : FVec F S2x4096x4x64 .bf16) (main_arg4 : FVec F S256x512 .bf16) : IVec S_ 1 :=
  let main_v0 : FVec F S2x4096x512 .f32 := (extf .f32 · bitsLt_bf16_f32) main_arg0
  let main_v1 : FVec F S2x4096x512 .f32 := Host.absf main_v0
  let main_cst : FVec F S_ .f32 := constant S_ .f32 0x7F800000#32
  let main_v2 : FVec F S2x4096x512 .f32 := broadcastInDim S2x4096x512 ![] bcast_S_S2x4096x512 main_cst
  let main_v3 : IVec S2x4096x512 1 := cmpf .olt main_v1 main_v2
  let main_c : IVec S_ 1 := constantI S_ 1 1#1
  let main_v4 : IVec S_ 1 := (fun x v => Host.reduce IntOp.andi x v reducesTo_S2x4096x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x4096x4x64 .f32 := (extf .f32 · bitsLt_bf16_f32) main_arg2
  let main_v12 : FVec F S2x4096x4x64 .f32 := Host.absf main_v11
  let main_cst_2 : FVec F S_ .f32 := constant S_ .f32 0x7F800000#32
  let main_v13 : FVec F S2x4096x4x64 .f32 := broadcastInDim S2x4096x4x64 ![] bcast_S_S2x4096x4x64 main_cst_2
  let main_v14 : IVec S2x4096x4x64 1 := cmpf .olt main_v12 main_v13
  let main_c_3 : IVec S_ 1 := constantI S_ 1 1#1
  let main_v15 : IVec S_ 1 := (fun x v => Host.reduce IntOp.andi x v reducesTo_S2x4096x4x64_S_d0_1_2_3 h_S_) main_v14 main_c_3
  let main_v16 : IVec S_ 1 := andi main_v10 main_v15
  main_v16
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x2x128x4x64 : Shape := ⟨5, ![2, 2, 128, 4, 64]⟩
abbrev S2 : Shape := ⟨1, ![2]⟩
abbrev S1x2x128x4x64 : Shape := ⟨5, ![1, 2, 128, 4, 64]⟩
abbrev S_ : Shape := ⟨0, ![]⟩
abbrev S1 : Shape := ⟨1, ![1]⟩
abbrev S256x256 : Shape := ⟨2, ![256, 256]⟩
abbrev S1x128x1x64 : Shape := ⟨4, ![1, 128, 1, 64]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S2x256x4x64 : Shape := ⟨4, ![2, 256, 4, 64]⟩
abbrev S1x256x1x64 : Shape := ⟨4, ![1, 256, 1, 64]⟩
abbrev S256x64 : Shape := ⟨2, ![256, 64]⟩
abbrev S128x512 : Shape := ⟨2, ![128, 512]⟩
abbrev S1x128x512 : Shape := ⟨3, ![1, 128, 512]⟩

abbrev nBuf : Space → Nat
  | .hbm => 6
  | .vmem => 9
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S2x2x128x4x64, .bf16⟩
  | .local _ .vmem, ⟨7, _⟩ => ⟨S2x2x128x4x64, .bf16⟩
  | .local _ .vmem, ⟨8, _⟩ => ⟨S2x2x128x4x64, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_22 : BitVec 32 := 1#32
  let v19 : BitVec 32 := Scalar.muli v5 c1_i32_22
  let v20 : BitVec 32 := Scalar.addi c0_i32 v19
  v20.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_24 : BitVec 32 := 1#32
  let v21 : BitVec 32 := Scalar.muli v7 c1_i32_24
  let v22 : BitVec 32 := Scalar.addi c0_i32_25 v21
  v22.toNat
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_28 : BitVec 32 := 1#32
  let v23 : BitVec 32 := Scalar.muli v7 c1_i32_28
  let v24 : BitVec 32 := Scalar.addi c0_i32_29 v23
  v24.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_32 : BitVec 32 := 1#32
  let v29 : BitVec 32 := Scalar.muli v5 c1_i32_32
  let v30 : BitVec 32 := Scalar.addi c0_i32_33 v29
  v30.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S2x4096x256 : Shape := ⟨3, ![2, 4096, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2x4x4096x4096 : Shape := ⟨4, ![2, 4, 4096, 4096]⟩
abbrev S1x1x4096x4096 : Shape := ⟨4, ![1, 1, 4096, 4096]⟩
abbrev S2x4x4096 : Shape := ⟨3, ![2, 4, 4096]⟩
abbrev S2x4x4096x1 : Shape := ⟨4, ![2, 4, 4096, 1]⟩
abbrev S1x1x4096x1 : Shape := ⟨4, ![1, 1, 4096, 1]⟩
abbrev S2x4x64x4096 : Shape := ⟨4, ![2, 4, 64, 4096]⟩

abbrev nBuf : Space → Nat
  | .hbm => 66
  | .vmem => 0
  | .smem => 0
  | _ => 0

abbrev bufTy : (tb : Table) → Fin (tcTables nBuf tb) → BufTy
  | .hbm, ⟨0, _⟩ => ⟨S2x4096x512, .bf16⟩
  | .hbm, ⟨1, _⟩ => ⟨S512x256, .bf16⟩
  | .hbm, ⟨2, _⟩ => ⟨S2x4096x4x64, .bf16⟩
  | .hbm, ⟨3, _⟩ => ⟨S2x4096x4x64, .bf16⟩
  | .hbm, ⟨4, _⟩ => ⟨S256x512, .bf16⟩
  | .hbm, ⟨5, _⟩ => ⟨S2x4096x512, .f32⟩
  | .hbm, ⟨6, _⟩ => ⟨S512x256, .f32⟩
  | .hbm, ⟨7, _⟩ => ⟨S2x4096x256, .f32⟩
  | .hbm, ⟨8, _⟩ => ⟨S2x4096x256, .bf16⟩
  | .hbm, ⟨9, _⟩ => ⟨S2x4096x256, .f32⟩
  | .hbm, ⟨10, _⟩ => ⟨S2x4096x4x64, .f32⟩
  | .hbm, ⟨11, _⟩ => ⟨S4096, .i32⟩
  | .hbm, ⟨12, _⟩ => ⟨S4096x1, .i32⟩
  | .hbm, ⟨13, _⟩ => ⟨S4096, .i32⟩
  | .hbm, ⟨14, _⟩ => ⟨S1x4096, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S4096x4096, .i32⟩
  | .hbm, ⟨19, _⟩ => ⟨S_, .i32⟩
  | .hbm, ⟨20, _⟩ => ⟨S4096x4096, .i32⟩
  | .hbm, ⟨21, _⟩ => ⟨S4096x4096, .i1⟩
  | .hbm, ⟨22, _⟩ => ⟨S2x4096x4x64, .f32⟩
  | .hbm, ⟨23, _⟩ => ⟨S2x4x4096x4096, .f32⟩
  | .hbm, ⟨24, _⟩ => ⟨S2x4x4096x4096, .bf16⟩
  | .hbm, ⟨25, _⟩ => ⟨S2x4x4096x4096, .f32⟩
  | .hbm, ⟨26, _⟩ => ⟨S_, .f32⟩
  | .hbm, ⟨27, _⟩ => ⟨S2x4x4096x4096, .f32⟩
  | .hbm, ⟨28, _⟩ => ⟨S2x4x4096x4096, .f32⟩
  | .hbm, ⟨29, _⟩ => ⟨S1x1x4096x4096, .i1⟩
  | .hbm, ⟨30, _⟩ => ⟨S_, .f32⟩
  | .hbm, ⟨31, _⟩ => ⟨S_, .f32⟩
  | .hbm, ⟨32, _⟩ => ⟨S2x4x4096x4096, .i1⟩
  | .hbm, ⟨33, _⟩ => ⟨S2x4x4096x4096, .f32⟩
  | .hbm, ⟨34, _⟩ => ⟨S2x4x4096x4096, .f32⟩
  | .hbm, ⟨35, _⟩ => ⟨S_, .f32⟩
  | .hbm, ⟨36, _⟩ => ⟨S2x4x4096, .f32⟩
  | .hbm, ⟨37, _⟩ => ⟨S2x4x4096x1, .f32⟩
  | .hbm, ⟨38, _⟩ => ⟨S2x4x4096x4096, .f32⟩
  | .hbm, ⟨39, _⟩ => ⟨S2x4x4096x4096, .f32⟩
  | .hbm, ⟨40, _⟩ => ⟨S2x4x4096x4096, .f32⟩
  | .hbm, ⟨41, _⟩ => ⟨S_, .i1⟩
  | .hbm, ⟨42, _⟩ => ⟨S4096, .i1⟩
  | .hbm, ⟨43, _⟩ => ⟨S1x1x4096x1, .i1⟩
  | .hbm, ⟨44, _⟩ => ⟨S_, .f32⟩
  | .hbm, ⟨45, _⟩ => ⟨S2x4x4096, .f32⟩
  | .hbm, ⟨46, _⟩ => ⟨S2x4x4096x1, .f32⟩
  | .hbm, ⟨47, _⟩ => ⟨S_, .f32⟩
  | .hbm, ⟨48, _⟩ => ⟨S_, .f32⟩
  | .hbm, ⟨49, _⟩ => ⟨S2x4x4096x1, .i1⟩
  | .hbm, ⟨50, _⟩ => ⟨S2x4x4096x1, .f32⟩
  | .hbm, ⟨51, _⟩ => ⟨S2x4x4096x1, .f32⟩
  | .hbm, ⟨52, _⟩ => ⟨S2x4x4096x4096, .f32⟩
  | .hbm, ⟨53, _⟩ => ⟨S2x4x4096x4096, .f32⟩
  | .hbm, ⟨54, _⟩ => ⟨S1x1x4096x1, .i1⟩
  | .hbm, ⟨55, _⟩ => ⟨S_, .f32⟩
  | .hbm, ⟨56, _⟩ => ⟨S_, .f32⟩
  | .hbm, ⟨57, _⟩ => ⟨S2x4x4096x4096, .i1⟩
  | .hbm, ⟨58, _⟩ => ⟨S2x4x4096x4096, .f32⟩
  | .hbm, ⟨59, _⟩ => ⟨S2x4x4096x4096, .f32⟩
  | .hbm, ⟨60, _⟩ => ⟨S2x4096x4x64, .f32⟩
  | .hbm, ⟨61, _⟩ => ⟨S2x4x64x4096, .f32⟩
  | .hbm, ⟨62, _⟩ => ⟨S2x4096x4x64, .f32⟩
  | .hbm, ⟨63, _⟩ => ⟨S2x4096x256, .f32⟩
  | .hbm, ⟨64, _⟩ => ⟨S256x512, .f32⟩
  | .hbm, ⟨65, _⟩ => ⟨S2x4096x512, .f32⟩
  | _, _ => ⟨S2x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]
-- ==== Proof.Ideal.Proto.lean ====
/-
# The ring's protocol

Every device copies its keys and values to both ring neighbours. A direction is a Boolean `w`: `false` copies to
the right neighbour, into its buffer for the left halo; `true` copies to the left neighbour, into its buffer for
the right halo. Five cells per device:

* the barrier cell, waited for 2 units, one from each neighbour; with its unit a neighbour hands over its own halo
  buffer, which the waiting device's copy is going to overwrite;
* per direction a send cell, credited when the copy has read the send buffer: hands back half of the send buffer;
* per direction a receive cell, credited by the neighbour's copy: hands over the halo buffer HOLDING the neighbour's
  keys and values.

The contents handed over are those of the whole run: `sent c` is what device `c` packed.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.FrameBody
public import Idealize.ShloMosaic.Lib.Ring
public import Idealize.ShloMosaic.Lib.Tactic

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The rounds library's resource, duties named by a Boolean. -/
abbrev UB : Type := URounds (GSem nD τ sig) Bool
abbrev UU : Type := UR sig nD τ × UB

local notation "𝕄" => MT nD τ sig Unit (Elt F) ℕ UU ℕ

/-- Where the pipeline's own resource sits. -/
abbrev EP : Emb (UR sig nD τ) (MT nD τ sig Unit (Elt F) ℕ UU ℕ) := embL
/-- Where the resource of this protocol's rounds sits. -/
abbrev ER : Emb UB (MT nD τ sig Unit (Elt F) ℕ UU ℕ) := embR

variable (m : (ℓ : Loc nD τ sig) → Buf (Elt F) ℓ) (ρ : Dev nD → PrngReg)

/-! ## The ring -/

set_option backward.proofsInPublic true in
/-- The device that direction `w`'s copy of device `c` lands on. -/
def tgt (w : Bool) (c : Dev nD) : Dev nD := ⟨(c.val + if w then 31 else 1) % 32, Nat.mod_lt _ (by decide)⟩

/-- Going one way and back the other is where one started. -/
theorem tgt_not (w : Bool) (c : Dev nD) : tgt (!w) (tgt w c) = c := by revert w c; decide +kernel
/-- The same, the other way first. -/
theorem tgt_not' (w : Bool) (c : Dev nD) : tgt w (tgt (!w) c) = c := by revert w c; decide +kernel

/-- The first barrier signal goes to the left neighbour. -/
theorem dev1_eq (c : Dev nD) : (⟨k0_dev1 c, k0_dev1_lt c⟩ : Dev nD) = tgt true c := Fin.ext (k0_dev1_eq c)
/-- The second barrier signal goes to the right neighbour. -/
theorem dev2_eq (c : Dev nD) : (⟨k0_dev2 c, k0_dev2_lt c⟩ : Dev nD) = tgt false c := Fin.ext (k0_dev2_eq c)
/-- The first copy goes to the right neighbour. -/
theorem dev3_eq (c : Dev nD) : (⟨k0_dev3 c, k0_dev3_lt c⟩ : Dev nD) = tgt false c := Fin.ext (k0_dev3_eq c)
/-- The second copy goes to the left neighbour. -/
theorem dev4_eq (c : Dev nD) : (⟨k0_dev4 c, k0_dev4_lt c⟩ : Dev nD) = tgt true c := Fin.ext (k0_dev4_eq c)

/-- The ring turned one step in direction `w`. -/
def turn (w : Bool) : Dev nD ≃ Dev nD := ⟨tgt w, tgt (!w), tgt_not w, tgt_not' w⟩

/-! ## The memrefs, the semaphores, the cells -/

abbrev xM : Memref sig .tc .vmem S2x128x512 .bf16 := Memref.whole cc0_stg0_0
abbrev wqM : Memref sig .tc .vmem S512x256 .bf16 := Memref.whole cc0_stg1_0
abbrev keyM : Memref sig .tc .vmem S2x128x4x64 .bf16 := Memref.whole cc0_stg2_0
abbrev valM : Memref sig .tc .vmem S2x128x4x64 .bf16 := Memref.whole cc0_stg3_0
abbrev woM : Memref sig .tc .vmem S256x512 .bf16 := Memref.whole cc0_stg4_0
abbrev outM : Memref sig .tc .vmem S2x128x512 .f32 := Memref.whole cc0_stg5_0
/-- The send buffer. -/
abbrev kvM : Memref sig .tc .vmem S2x2x128x4x64 .bf16 := Memref.whole cc0_scratch0
/-- The halo buffer that direction `w`'s copies land in. -/
def haloM (w : Bool) : Memref sig .tc .vmem S2x2x128x4x64 .bf16 := match w with
  | false => Memref.whole cc0_scratch1
  | true => Memref.whole cc0_scratch2

/-- The barrier semaphore. -/
abbrev barS : Sem sig := (SemArray.scalar (sig.barrier 0 rfl) : Sems sig S_).sem
/-- Direction `w`'s send semaphore. -/
def sndS (w : Bool) : DmaSem sig := match w with | false => ⟨6, by decide⟩ | true => ⟨7, by decide⟩
/-- Direction `w`'s receive semaphore. -/
def rcvS (w : Bool) : DmaSem sig := match w with | false => ⟨8, by decide⟩ | true => ⟨9, by decide⟩

/-- The kernel reaches them by slicing the two arrays. -/
theorem slice_s0 : ((cc0_scratch3.slice (Rect.unit (s := S2) ![0] S1.size inb_S2_S1_0)).squeeze S_ squeezes_S1_S_).sem = sndS false := rfl
theorem slice_s1 : ((cc0_scratch3.slice (Rect.unit (s := S2) ![1] S1.size inb_S2_S1_1)).squeeze S_ squeezes_S1_S_).sem = sndS true := rfl
theorem slice_r0 : ((cc0_scratch4.slice (Rect.unit (s := S2) ![0] S1.size inb_S2_S1_0)).squeeze S_ squeezes_S1_S_).sem = rcvS false := rfl
theorem slice_r1 : ((cc0_scratch4.slice (Rect.unit (s := S2) ![1] S1.size inb_S2_S1_1)).squeeze S_ squeezes_S1_S_).sem = rcvS true := rfl

/-- The barrier counter of device `c`. -/
abbrev barCell (c : Dev nD) : GSem nD τ sig := ((c : Thread nD τ), .reg barS)
/-- Direction `w`'s send counter of device `c`. -/
abbrev sndCell (w : Bool) (c : Dev nD) : GSem nD τ sig := ((c : Thread nD τ), .dma (sndS w))
/-- Direction `w`'s receive counter of device `c`. -/
abbrev rcvCell (w : Bool) (c : Dev nD) : GSem nD τ sig := ((c : Thread nD τ), .dma (rcvS w))

/-- No send semaphore is a receive semaphore. -/
theorem snd_ne_rcv (w v : Bool) : sndS w ≠ rcvS v := by cases w <;> cases v <;> decide
/-- The two send semaphores differ. -/
theorem snd_inj {w v : Bool} (h : sndS w = sndS v) : w = v := by revert h; cases w <;> cases v <;> decide
/-- The two receive semaphores differ. -/
theorem rcv_inj {w v : Bool} (h : rcvS w = rcvS v) : w = v := by revert h; cases w <;> cases v <;> decide

/-- The units one copy credits. -/
abbrev N : ℕ := (kvM : Memref sig .tc .vmem S2x2x128x4x64 .bf16).view.dmaCredit
/-- A copy credits at least one unit. -/
theorem N_pos : 0 < N := View.dmaCredit_pos _ (by decide)

/-- A copy into a halo buffer credits as much as one out of the send buffer. -/
theorem halo_amount (w : Bool) (q : DmaSem sig) : (haloM w).view.amount (.dma q) = N := by cases w <;> rfl

/-! ## Contents -/

/-- The two slots of a packed buffer. -/
abbrev slot0 : Rect S2x2x128x4x64 := Rect.unit (s := S2x2x128x4x64) ![0, 0, 0, 0, 0] S1x2x128x4x64.size inb_S2x2x128x4x64_S1x2x128x4x64_0_0_0_0_0
abbrev slot1 : Rect S2x2x128x4x64 := Rect.unit (s := S2x2x128x4x64) ![1, 0, 0, 0, 0] S1x2x128x4x64.size inb_S2x2x128x4x64_S1x2x128x4x64_1_0_0_0_0
/-- The two batches of the result block. -/
abbrev row0R : Rect S2x128x512 := Rect.unit (s := S2x128x512) ![0, 0, 0] S1x128x512.size inb_S2x128x512_S1x128x512_0_0_0
abbrev row1R : Rect S2x128x512 := Rect.unit (s := S2x128x512) ![1, 0, 0] S1x128x512.size inb_S2x128x512_S1x128x512_1_0_0

/-- A packed buffer: `a` in slot 0, `b` in slot 1. -/
def pack (a b : Vec F S1x2x128x4x64 .bf16) : S2x2x128x4x64.Idx → Elt F .bf16 :=
  View.canon [⟨slot1, b⟩, ⟨slot0, a⟩]
/-- A result block: `a` for batch 0, `b` for batch 1. -/
def rows (a b : Vec F S1x128x512 .f32) : S2x128x512.Idx → Elt F .f32 :=
  View.canon [⟨row1R, b⟩, ⟨row0R, a⟩]

theorem slots_disjoint : Disjoint (slot1 : Rect S2x2x128x4x64).set slot0.set :=
  Rect.unit_disjoint (0 : Fin 5) (.inr (by decide))

/-- Slot 0 of a packed buffer holds the first part; -/
theorem ld_pack0 (a b : Vec F S1x2x128x4x64 .bf16) : View.ld (pack a b) slot0 = a := by
  funext x
  have h0 : slot0.emb x ∉ slot1.set := Finset.disjoint_right.mp slots_disjoint (by rw [← Rect.map_emb_univ]; exact Finset.mem_map_of_mem _ (Finset.mem_univ x))
  exact (View.canon_cons_of_not_mem (⟨slot1, b⟩ : View.Piece (Elt F) S2x2x128x4x64 .bf16) [⟨slot0, a⟩] h0).trans (View.canon_cons_emb slot0 a [] x)

/-- slot 1 the second. -/
theorem ld_pack1 (a b : Vec F S1x2x128x4x64 .bf16) : View.ld (pack a b) slot1 = b := by
  funext x
  exact View.canon_cons_emb slot1 b [⟨slot0, a⟩] x

/-- The two stores into the send buffer leave it packed, whatever it held. -/
theorem write_pack (f : (cc0_scratch0 : Ref sig .tc).ty.Contents (Elt F)) (a b : Vec F S1x2x128x4x64 .bf16) :
    ((kvM : Memref sig .tc .vmem S2x2x128x4x64 .bf16).access slot1 : View sig .tc _ _ _).write (Elt F)
      (((kvM : Memref sig .tc .vmem S2x2x128x4x64 .bf16).access slot0 : View sig .tc _ _ _).write (Elt F) f a Finset.univ) b Finset.univ = pack a b := by
  have h := View.read_writes_eq_canon (View.whole cc0_scratch0) f [⟨slot1, b⟩, ⟨slot0, a⟩]
    (View.cover_of_tiledL _ S1x2x128x4x64.size (by sl_kernel_rfl))
  rw [View.read_whole] at h
  exact h

/-- The two stores into the result's staging buffer leave it the two rows, whatever it held. -/
theorem write_rows (f : (cc0_stg5_0 : Ref sig .tc).ty.Contents (Elt F)) (a b : Vec F S1x128x512 .f32) :
    ((outM : Memref sig .tc .vmem S2x128x512 .f32).access row1R : View sig .tc _ _ _).write (Elt F)
      (((outM : Memref sig .tc .vmem S2x128x512 .f32).access row0R : View sig .tc _ _ _).write (Elt F) f a Finset.univ) b Finset.univ = rows a b := by
  have h := View.read_writes_eq_canon (View.whole cc0_stg5_0) f [⟨row1R, b⟩, ⟨row0R, a⟩]
    (View.cover_of_tiledL _ S1x128x512.size (by sl_kernel_rfl))
  rw [View.read_whole] at h
  exact h

/-- The blocks of the five operands that the pipeline stages on device `c`. -/
def xB (c : Dev nD) : (cc0_stg0_0 : Ref sig .tc).ty.Contents (Elt F) := (win0_0.blk (0 : Fin 1)).view.read (Elt F) (m ((c : Thread nD τ).loc main_arg0))
def wqB (c : Dev nD) : (cc0_stg1_0 : Ref sig .tc).ty.Contents (Elt F) := (win0_1.blk (0 : Fin 1)).view.read (Elt F) (m ((c : Thread nD τ).loc main_arg1))
def keyB (c : Dev nD) : (cc0_stg2_0 : Ref sig .tc).ty.Contents (Elt F) := (win0_2.blk (0 : Fin 1)).view.read (Elt F) (m ((c : Thread nD τ).loc main_arg2))
def valB (c : Dev nD) : (cc0_stg3_0 : Ref sig .tc).ty.Contents (Elt F) := (win0_3.blk (0 : Fin 1)).view.read (Elt F) (m ((c : Thread nD τ).loc main_arg3))
def woB (c : Dev nD) : (cc0_stg4_0 : Ref sig .tc).ty.Contents (Elt F) := (win0_4.blk (0 : Fin 1)).view.read (Elt F) (m ((c : Thread nD τ).loc main_arg4))

/-- What device `c` packs and sends: its keys and its values. -/
def sent (c : Dev nD) : (cc0_scratch0 : Ref sig .tc).ty.Contents (Elt F) := pack (k0_pay2 (keyB m c)) (k0_pay3 (valB m c))

/-- A device's number as the kernel computes it. -/
abbrev devWord (c : Dev nD) : BitVec 32 := Scalar.remsi (Scalar.divsi (Dev.word c) 1#32) 32#32

section Rows
variable (i : BitVec 32) (x : Vec F S2x128x512 .bf16) (wq : Vec F S512x256 .bf16) (k v : Vec F S2x128x4x64 .bf16)
  (wo : Vec F S256x512 .bf16) (kl kr vl vr : Vec F S1x2x128x4x64 .bf16)

/-- Batch 0's rows of the result block, as the kernel computes them from its operands and the two halos. -/
def row0 : Vec F S1x128x512 .f32 :=
  let v41 := k0_pay4 x wq
  let v43 := k0_pay5 k
  let v45 := k0_pay6 v
  let v52 := k0_pay7 x wq k
  let v53 := k0_pay8 x wq k
  let v98 := k0_pay23 v41
  let v100 := k0_pay24 v43
  let z := constant S128x128 .f32 0x00000000#32
  let v192 := k0_pay51 i
  let v210 := k0_pay52 kl kr
  let v216 := k0_pay53 vl vr
  k0_pay64 (k0_pay26 v98 v100 z) (k0_pay28 v98 v100 z) (k0_pay29 v45 v98 v100 z) v192 v216 (k0_pay54 wo)
    (k0_pay55 v41 (k0_pay9 v53) (k0_pay11 v52 v53) (k0_pay12 v45 v52 v53) v192 v210 v216)
    (k0_pay60 (k0_pay16 v41 v43) (k0_pay17 v41 v43 v45) v216 (k0_pay58 v41 (k0_pay14 v41 v43) v192 v210) (k0_pay59 v41 (k0_pay14 v41 v43) v192 v210))
    (k0_pay61 v41 (k0_pay19 v41 v43) (k0_pay21 v41 v43) (k0_pay22 v41 v43 v45) v192 v210 v216)
    (k0_pay62 v41 v210) k0_pay63

/-- Batch 1's rows. -/
def row1 : Vec F S1x128x512 .f32 :=
  let v41 := k0_pay4 x wq
  let v43 := k0_pay5 k
  let v45 := k0_pay6 v
  let v192 := k0_pay51 i
  let v210 := k0_pay52 kl kr
  let v216 := k0_pay53 vl vr
  let v122 := k0_pay31 v41 v43
  let v130 := k0_pay34 v41 v43 v45
  k0_pay1 (k0_pay75 v41 (k0_pay42 v41 v43) (k0_pay44 v41 v43) (k0_pay45 v41 v43 v45) (k0_pay47 v41 v43) (k0_pay49 v41 v43) (k0_pay50 v41 v43 v45)
    v192 v210 v216 (k0_pay54 wo)
    (k0_pay71 (k0_pay33 v41 v43) (k0_pay67 v41 v122 v192 v210) (k0_pay68 v41 v122 v192 v210) (k0_pay69 v41 v122 v130 v192 v210) (k0_pay70 v216) (constant S128x64 .f32 0x00000000#32))
    (k0_pay72 v41 (k0_pay36 v41 v43) (k0_pay38 v41 v43) (k0_pay40 (k0_pay37 v41 v43) (k0_pay39 v45) (constant S128x64 .f32 0x00000000#32)) v192 v210 v216)
    (k0_pay73 v41 v192 v210) (k0_pay74 v41 (k0_pay42 v41 v43) v192 v210))

end Rows

/-- The block of the result that device `c` computes: its own operands and both neighbours' keys and values. -/
def outAt (c : Dev nD) : (cc0_stg5_0 : Ref sig .tc).ty.Contents (Elt F) :=
  rows
    (row0 (devWord c) (xB m c) (wqB m c) (keyB m c) (valB m c) (woB m c)
      (k0_pay2 (keyB m (tgt true c))) (k0_pay2 (keyB m (tgt false c))) (k0_pay3 (valB m (tgt true c))) (k0_pay3 (valB m (tgt false c))))
    (row1 (devWord c) (xB m c) (wqB m c) (keyB m c) (valB m c) (woB m c)
      (k0_pay2 (keyB m (tgt true c))) (k0_pay2 (keyB m (tgt false c))) (k0_pay3 (valB m (tgt true c))) (k0_pay3 (valB m (tgt false c))))

/-! ## The points-to facts the cells exchange -/

/-- The half share of the send buffer that direction `w`'s copy reads. -/
def half (w : Bool) : PosShare TreeShare := match w with | false => fullShare.left | true => fullShare.right

/-- The send buffer at direction `w`'s half, packed. -/
def kvPts (w : Bool) (c : Dev nD) : sProp 𝕄 :=
  (kvM : Memref sig .tc .vmem S2x2x128x4x64 .bf16).view.loc (c : Thread nD τ) ↦[(kvM : Memref sig .tc .vmem S2x2x128x4x64 .bf16).view.set]{half w} sent m c
/-- The halo buffer `w` of device `c` at contents `f`. -/
def haloPts (w : Bool) (c : Dev nD) (f : Buf (Elt F) ((haloM w).view.loc (c : Thread nD τ))) : sProp 𝕄 :=
  (haloM w).view.loc (c : Thread nD τ) ↦[(haloM w).view.set]{fullShare} f
/-- The halo buffer `w` of device `c` holding what `c`'s neighbour against direction `w` sent. -/
def landed (w : Bool) (c : Dev nD) : sProp 𝕄 := iprop(∃ f, ⌜(haloM w).view.read (Elt F) f = sent m (tgt (!w) c)⌝ ∗ haloPts w c f)

instance kvPts_storable (w : Bool) (c : Dev nD) : BI.Storable (upEmb : UEmb _ 𝕄) (kvPts (F := F) m w c) := by unfold kvPts; infer_instance
instance haloPts_storable (w : Bool) (c : Dev nD) (f) : BI.Storable (upEmb : UEmb _ 𝕄) (haloPts (F := F) w c f) := by unfold haloPts; infer_instance
instance landed_storable (w : Bool) (c : Dev nD) : BI.Storable (upEmb : UEmb _ 𝕄) (landed (F := F) m w c) := by unfold landed; infer_instance

/-- The whole send buffer is its two halves. -/
theorem kv_halves (c : Dev nD) :
    ((((c : Thread nD τ).loc cc0_scratch0) ↦{fullShare} sent m c : sProp 𝕄)) ⊣⊢ iprop(kvPts m false c ∗ kvPts m true c) := by
  unfold kvPts
  rw [View.set_whole]
  exact pointsTo_share (PosShare.mem_left_op_right fullShare)

/-- A halo buffer's elements are all its buffer's. -/
theorem halo_set (w : Bool) : (haloM w).view.set = Finset.univ := by cases w <;> exact View.set_whole _
theorem haloPts_false (c : Dev nD) (f : Buf (Elt F) ((c : Thread nD τ).loc cc0_scratch1)) :
    haloPts false c f = (((c : Thread nD τ).loc cc0_scratch1) ↦{fullShare} f : sProp 𝕄) := by unfold haloPts; rw [halo_set]; rfl
theorem haloPts_true (c : Dev nD) (f : Buf (Elt F) ((c : Thread nD τ).loc cc0_scratch2)) :
    haloPts true c f = (((c : Thread nD τ).loc cc0_scratch2) ↦{fullShare} f : sProp 𝕄) := by unfold haloPts; rw [halo_set]; rfl

/-! ## The schedule -/

/-- What the barrier cell of `d` is handed with duty `w`: by the neighbour in direction `w` its halo buffer `w`, which
    `d`'s copy will overwrite, and that its receive cell stands at round 0. -/
def barPay (d : Dev nD) (w : Bool) : sProp 𝕄 := iprop((∃ f, haloPts w (tgt w d) f) ∗ reached ER (rcvCell w (tgt w d)) 0)

/-- A device's barrier counter. -/
abbrev IsBar (g : GSem nD τ sig) : Prop := g.1.2 = .tc ∧ g.2 = .reg barS
/-- A device's send or receive counter. -/
abbrev IsDma (g : GSem nD τ sig) : Prop := g.1.2 = .tc ∧ ∃ w : Bool, g.2 = .dma (sndS w) ∨ g.2 = .dma (rcvS w)

/-- The schedule: one round per cell; two unit duties on a barrier cell, one duty of a copy's credit on a transfer cell. -/
def rd : Rounds.Schedule (GSem nD τ sig) Bool 𝕄 where
  duties g r := if r = 0 ∧ IsBar g then Finset.univ else if r = 0 ∧ IsDma g then {false} else ∅
  unitless _ := False
  amount g _ _ := if g.2 = .reg barS then 1 else N
  payload g _ d :=
    if g.2 = .reg barS then barPay g.1.1 d
    else if g.2 = .dma (sndS false) then kvPts m false g.1.1
    else if g.2 = .dma (sndS true) then kvPts m true g.1.1
    else if g.2 = .dma (rcvS false) then landed m false g.1.1
    else if g.2 = .dma (rcvS true) then landed m true g.1.1
    else iprop(emp)
  amount_pos g _ _ _ := by
    by_cases h : g.2 = .reg barS
    · rw [if_pos h]; exact Nat.one_pos
    · rw [if_neg h]; exact N_pos

instance rd_payload_storable (g : GSem nD τ sig) (r : ℕ) (d : Bool) :
    BI.Storable (upEmb : UEmb _ 𝕄) ((rd (F := F) m).payload g r d) := by
  show BI.Storable upEmb (if g.2 = .reg barS then barPay g.1.1 d
    else if g.2 = .dma (sndS false) then kvPts m false g.1.1 else if g.2 = .dma (sndS true) then kvPts m true g.1.1
    else if g.2 = .dma (rcvS false) then landed m false g.1.1 else if g.2 = .dma (rcvS true) then landed m true g.1.1 else iprop(emp))
  unfold barPay
  (repeat' split) <;> infer_instance

section Sched
variable (c : Dev nD)

/-- A barrier counter has both duties in round 0. -/
theorem duties_bar : (rd (F := F) m).duties (barCell c) 0 = Finset.univ := by dsimp only [rd]; exact if_pos ⟨rfl, rfl, rfl⟩
/-- A send counter has one duty in round 0. -/
theorem duties_snd (w : Bool) : (rd (F := F) m).duties (sndCell w c) 0 = {false} := by
  dsimp only [rd]; rw [if_neg (fun h => by cases h.2.2)]; exact if_pos ⟨rfl, rfl, w, .inl rfl⟩
/-- A receive counter has one duty in round 0. -/
theorem duties_rcv (w : Bool) : (rd (F := F) m).duties (rcvCell w c) 0 = {false} := by
  dsimp only [rd]; rw [if_neg (fun h => by cases h.2.2)]; exact if_pos ⟨rfl, rfl, w, .inr rfl⟩
/-- No counter has a duty after round 0. -/
theorem duties_later (g : GSem nD τ sig) : ∀ r, 1 ≤ r → (rd (F := F) m).duties g r = ∅ :=
  fun r hr => by dsimp only [rd]; rw [if_neg fun h => by omega, if_neg fun h => by omega]

/-- A barrier duty is one unit. -/
theorem amount_bar (d : Bool) : (rd (F := F) m).amount (barCell c) 0 d = 1 := by dsimp only [rd]; exact if_pos rfl
/-- A transfer duty is a copy's credit. -/
theorem amount_dma (q : DmaSem sig) (d : Bool) : (rd (F := F) m).amount ((c : Thread nD τ), .dma q) 0 d = N := by
  dsimp only [rd]; exact if_neg (fun h => by cases h)

/-- A barrier counter expects two units. -/
theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
/-- A transfer counter with one duty expects one copy's credit. -/
theorem expect_dma (q : DmaSem sig) (hq : (rd (F := F) m).duties ((c : Thread nD τ), .dma q) 0 = {false}) :
    (rd (F := F) m).expect ((c : Thread nD τ), .dma q) 0 = N := by
  unfold Schedule.expect Schedule.amountOf; rw [hq, Finset.sum_singleton, amount_dma]

/-- What a barrier duty hands over. -/
theorem payload_bar (d : Bool) : (rd (F := F) m).payload (barCell c) 0 d = barPay c d := by dsimp only [rd]; rw [if_pos rfl]
/-- A send duty hands back the copy's half of the send buffer. -/
theorem payload_snd (w d : Bool) : (rd (F := F) m).payload (sndCell w c) 0 d = kvPts m w c := by
  dsimp only [rd]; rw [if_neg (fun h => by cases h)]
  cases w
  · rw [if_pos rfl]
  · rw [if_neg (by decide), if_pos rfl]
/-- A receive duty hands over the halo buffer with what landed in it. -/
theorem payload_rcv (w d : Bool) : (rd (F := F) m).payload (rcvCell w c) 0 d = landed m w c := by
  dsimp only [rd]; rw [if_neg (fun h => by cases h)]
  cases w
  · rw [if_neg (by decide), if_neg (by decide), if_pos rfl]
  · rw [if_neg (by decide), if_neg (by decide), if_neg (by decide), if_pos rfl]

/-- All that a barrier counter hands over in round 0. -/
theorem rest_bar : bigSep ((rd (F := F) m).duties (barCell c) 0 \ ∅) (fun d => (rd (F := F) m).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
/-- All that a transfer counter hands over in round 0. -/
theorem rest_dma (q : DmaSem sig) (hq : (rd (F := F) m).duties ((c : Thread nD τ), .dma q) 0 = {false}) :
    bigSep ((rd (F := F) m).duties ((c : Thread nD τ), .dma q) 0 \ ∅) (fun d => (rd (F := F) m).payload ((c : Thread nD τ), .dma q) 0 d)
      = (rd (F := F) m).payload ((c : Thread nD τ), .dma q) 0 false := by
  rw [Finset.sdiff_empty, hq, bigSep_singleton]

end Sched

/-! ## What each core owes at launch; the levels -/

/-- Device `c` owes, innermost first: its left neighbour's receive cell a copy's credit, its right neighbour's the same,
    its right neighbour's barrier a unit, its left neighbour's barrier a unit. -/
def O₃ (c : Dev nD) : CellTallies nD τ sig Unit := tallyAt (rcvCell true (tgt true c)) () N
/-- The same with the right neighbour's receive cell. -/
def O₂ (c : Dev nD) : CellTallies nD τ sig Unit := O₃ c + tallyAt (rcvCell false (tgt false c)) () N
/-- The same with the right neighbour's barrier. -/
def O₁ (c : Dev nD) : CellTallies nD τ sig Unit := O₂ c + tallyAt (barCell (tgt false c)) () 1
/-- All that device `c` owes at launch. -/
def O₀ (c : Dev nD) : CellTallies nD τ sig Unit := O₁ c + tallyAt (barCell (tgt true c)) () 1

/-- The counters that are levelled: those of the tensor cores. -/
def L (g : GSem nD τ sig) : Finset Unit := if g.1.2 = .tc then {()} else ∅
/-- Barrier cells below receive cells, every other cell below both. -/
def lv (g : GSem nD τ sig) (_ : Unit) : ℕ := if g.2 = .reg barS then 1 else if ∃ w : Bool, g.2 = .dma (rcvS w) then 2 else 0

/-- No counter off the tensor cores is levelled. -/
theorem L_of_ne (g : GSem nD τ sig) (h : g.1.2 ≠ .tc) : L g = ∅ := if_neg h
/-- Every counter of a tensor core is levelled. -/
theorem L_tc (c : Dev nD) (sm : SemLoc sig) : L ((c : Thread nD τ), sm) = {()} := if_pos rfl
/-- A barrier counter stands at level 1. -/
theorem lv_bar (c : Dev nD) : lv (barCell c) () = 1 := if_pos rfl
/-- A receive counter stands at level 2. -/
theorem lv_rcv (w : Bool) (c : Dev nD) : lv (rcvCell w c) () = 2 := by
  unfold lv; rw [if_neg (fun h => by cases h)]; exact if_pos ⟨w, rfl⟩

/-- After its two signals a device owes receive counters only. -/
theorem O₂_pos {c : Dev nD} {g : GSem nD τ sig} {u : Unit} (h : 0 < O₂ c g u) : ∃ w : Bool, g = rcvCell w (tgt w c) := by
  unfold O₂ O₃ at h
  rw [Pi.add_apply, Finsupp.add_apply, tallyAt_apply, tallyAt_apply] at h
  by_contra hn
  rw [if_neg (fun h' => hn ⟨true, h'.1⟩), if_neg (fun h' => hn ⟨false, h'.1⟩)] at h
  exact Nat.lt_irrefl 0 h
/-- At launch a device owes its neighbours' receive and barrier counters only. -/
theorem O₀_pos {c : Dev nD} {g : GSem nD τ sig} {u : Unit} (h : 0 < O₀ c g u) :
    ∃ w : Bool, g = rcvCell w (tgt w c) ∨ g = barCell (tgt w c) := by
  unfold O₀ O₁ at h
  rw [Pi.add_apply, Finsupp.add_apply, Pi.add_apply, Finsupp.add_apply, tallyAt_apply, tallyAt_apply] at h
  by_contra hn
  rw [if_neg (fun h' => hn ⟨false, .inr h'.1⟩), if_neg (fun h' => hn ⟨true, .inr h'.1⟩)] at h
  obtain ⟨w, hw⟩ := O₂_pos (by simpa only [Nat.add_zero] using h)
  exact hn ⟨w, .inl hw⟩

/-- A staging cell may be waited on whatever of this protocol is owed: it lies below every cell owed. -/
theorem mayWait_stage (c : Dev nD) (q : DmaSem sig) (hq : ∀ w, q ≠ rcvS w) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨w, rfl | rfl⟩ := O₀_pos hg <;> exact Finset.mem_singleton_self _)
      (fun p hp => by
        rw [Finset.mem_singleton.mp hp]; dsimp only [lv]
        rw [if_neg (fun h => by cases h), if_neg (fun ⟨w, h⟩ => hq w (SemLoc.dma.inj h))])
      (fun g u hg => by
        obtain ⟨w, rfl | rfl⟩ := O₀_pos hg
        · rw [lv_rcv]; decide
        · rw [lv_bar]; decide)
  · rw [MayWait_zero]; iintro -; iempintro

/-- At its barrier a device owes its two copies: receive cells, above its barrier cell. -/
theorem mayWait_bar (c : Dev nD) : (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by obtain ⟨w, rfl⟩ := O₂_pos hg; exact Finset.mem_singleton_self _)
    (fun p hp => by rw [Finset.mem_singleton.mp hp]; exact Nat.le_of_eq (lv_bar c))
    (fun g u hg => by obtain ⟨w, rfl⟩ := O₂_pos hg; rw [lv_rcv]; decide)

/-! ## What a device holds -/

/-- The cells of a device: its barrier, and per direction its send and its receive cell. -/
abbrev csem : Fin 5 → SemLoc sig := fun | 0 => .reg barS | 1 => .dma (sndS false) | 2 => .dma (rcvS false) | 3 => .dma (sndS true) | 4 => .dma (rcvS true)
/-- The counters of all devices, by device and place among the five. -/
abbrev kcell (ck : Dev nD × Fin 5) : GSem nD τ sig := ((ck.1 : Thread nD τ), csem ck.2)
/-- The places of direction `w`'s send and receive cells among the five. -/
def kS (w : Bool) : Fin 5 := match w with | false => 1 | true => 3
def kR (w : Bool) : Fin 5 := match w with | false => 2 | true => 4

/-- What is known of direction `w` for good: the invariants of the cells the device touches, and that each stands at
    round 0 or later. -/
def known (K : Dev nD × Fin 5 → ℕ) (w : Bool) (c : Dev nD) : sProp 𝕄 :=
  iprop(cellInv ER (rd m) (K (c, kS w)) (sndCell w c) ∗ cellInv ER (rd m) (K (c, kR w)) (rcvCell w c)
    ∗ cellInv ER (rd m) (K (tgt w c, 0)) (barCell (tgt w c)) ∗ cellInv ER (rd m) (K (tgt w c, kR w)) (rcvCell w (tgt w c))
    ∗ reached ER (barCell (tgt w c)) 0 ∗ reached ER (rcvCell w (tgt w c)) 0 ∗ reached ER (sndCell w c) 0 ∗ reached ER (rcvCell w c) 0)
instance known_persistent (K : Dev nD × Fin 5 → ℕ) (w : Bool) (c : Dev nD) : BI.Persistent (known m K w c) := by unfold known; infer_instance

/-- What direction `w` uses up: the device's positions on its two cells, and the tokens of the duties it pays: its
    neighbour's barrier and receive cell, its own send cell. -/
def stake (w : Bool) (c : Dev nD) : sProp 𝕄 :=
  iprop((atPos ER (sndCell w c) 0 ∅ 0 ∗ atPos ER (rcvCell w c) 0 ∅ 0)
    ∗ dutyTok ER (barCell (tgt w c)) 0 (!w) ∗ dutyTok ER (rcvCell w (tgt w c)) 0 false ∗ dutyTok ER (sndCell w c) 0 false)

/-- What device `c` has of the protocol: what is known and what it uses up, in both directions. -/
def ghost (K : Dev nD × Fin 5 → ℕ) (c : Dev nD) : sProp 𝕄 :=
  iprop(cellInv ER (rd m) (K (c, 0)) (barCell c) ∗ known m K false c ∗ known m K true c
    ∗ atPos ER (barCell c) 0 ∅ 0 ∗ stake false c ∗ stake true c)

/-- What device `c` starts with: its part of the protocol and the credits of its own counters. -/
def start (c : Dev nD) : sProp 𝕄 :=
  iprop((∃ K, ghost m K c) ∗ cred (tallyAt (barCell c) () 2) ∗ cred (tallyAt (rcvCell false c) () N) ∗ cred (tallyAt (rcvCell true c) () N) ∗ levAts L lv)

/-- Before the body: that, the send buffer and the two halo buffers. -/
def Φ₀ (c : Dev nD) : sProp 𝕄 :=
  iprop(start m c ∗ (∃ f : Buf (Elt F) ((c : Thread nD τ).loc cc0_scratch0), ((c : Thread nD τ).loc cc0_scratch0) ↦{fullShare} f)
    ∗ (∃ f, haloPts false c f) ∗ ∃ f, haloPts true c f)
/-- After the body: the three buffers at any contents, and its counters at zero. -/
def Φ₁ (c : Dev nD) : sProp 𝕄 :=
  iprop((∃ f : Buf (Elt F) ((c : Thread nD τ).loc cc0_scratch0), ((c : Thread nD τ).loc cc0_scratch0) ↦{fullShare} f)
    ∗ (∃ f, haloPts false c f) ∗ (∃ f, haloPts true c f)
    ∗ semVal (barCell c) 0 ∗ semVal (sndCell false c) 0 ∗ semVal (rcvCell false c) 0 ∗ semVal (sndCell true c) 0 ∗ semVal (rcvCell true c) 0)

/-- The pipeline's proof data: the operands' blocks stay, the result's block ends as `outAt`. -/
def dats (_ : Fin 1) (c : Dev nD) : Dat τ (Elt F) Unit ℕ UU ℕ cfg0 c where
  A w := m ((cfg0.win w).arr.view.loc (c : Thread nD τ))
  after w _ := match w with
    | ⟨0, _⟩ => xB m c
    | ⟨1, _⟩ => wqB m c
    | ⟨2, _⟩ => keyB m c
    | ⟨3, _⟩ => valB m c
    | ⟨4, _⟩ => woB m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- No loop of the kernel needs a bound. -/
abbrev 𝒱₀ : Variants := Variants.none

end Cert.KernelIdeal.Ring

end
-- ==== Proof.Ideal.Body.lean ====
/-
# The body's run

The kernel body, executed once at a symbolic device `c`: it packs its keys and values, hands its two halo buffers to
its neighbours with one barrier unit each, waits for both neighbours' units, starts the two copies, computes on its own
blocks, waits for the four transfers, reads the two halos and stores the two rows of its result.
-/
module

public import proofs.«01_k».proof.Proof.Ideal.Proto

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- Two zero offsets are the zero offset. -/
theorem hz2 : (![0, 0] : Fin 2 → Nat) = fun _ => 0 := funext fun a => by fin_cases a <;> rfl
/-- Three zero offsets are. -/
theorem hz3 : (![0, 0, 0] : Fin 3 → Nat) = fun _ => 0 := funext fun a => by fin_cases a <;> rfl
/-- Four zero offsets are. -/
theorem hz4 : (![0, 0, 0, 0] : Fin 4 → Nat) = fun _ => 0 := funext fun a => by fin_cases a <;> rfl

/-- A load of a whole operand reads its contents. -/
theorem read_x (f : (cc0_stg0_0 : Ref sig .tc).ty.Contents (Elt F)) :
    (xM : Memref sig .tc .vmem S2x128x512 .bf16).view.readAt (Elt F) (Rect.unit (s := S2x128x512) ![0, 0, 0] S2x128x512.size inb_S2x128x512_S2x128x512_0_0_0).toLoadRect f = f :=
  Memref.readAt_unit_zero (Elt F) cc0_stg0_0 hz3 _ _
/-- The same of the query weights; -/
theorem read_wq (f : (cc0_stg1_0 : Ref sig .tc).ty.Contents (Elt F)) :
    (wqM : Memref sig .tc .vmem S512x256 .bf16).view.readAt (Elt F) (Rect.unit (s := S512x256) ![0, 0] S512x256.size inb_S512x256_S512x256_0_0).toLoadRect f = f :=
  Memref.readAt_unit_zero (Elt F) cc0_stg1_0 hz2 _ _
/-- of the keys; -/
theorem read_key (f : (cc0_stg2_0 : Ref sig .tc).ty.Contents (Elt F)) :
    (keyM : Memref sig .tc .vmem S2x128x4x64 .bf16).view.readAt (Elt F) (Rect.unit (s := S2x128x4x64) ![0, 0, 0, 0] S2x128x4x64.size inb_S2x128x4x64_S2x128x4x64_0_0_0_0).toLoadRect f = f :=
  Memref.readAt_unit_zero (Elt F) cc0_stg2_0 hz4 _ _
/-- of the values; -/
theorem read_val (f : (cc0_stg3_0 : Ref sig .tc).ty.Contents (Elt F)) :
    (valM : Memref sig .tc .vmem S2x128x4x64 .bf16).view.readAt (Elt F) (Rect.unit (s := S2x128x4x64) ![0, 0, 0, 0] S2x128x4x64.size inb_S2x128x4x64_S2x128x4x64_0_0_0_0).toLoadRect f = f :=
  Memref.readAt_unit_zero (Elt F) cc0_stg3_0 hz4 _ _
/-- of the output weights. -/
theorem read_wo (f : (cc0_stg4_0 : Ref sig .tc).ty.Contents (Elt F)) :
    (woM : Memref sig .tc .vmem S256x512 .bf16).view.readAt (Elt F) (Rect.unit (s := S256x512) ![0, 0] S256x512.size inb_S256x512_S256x512_0_0).toLoadRect f = f :=
  Memref.readAt_unit_zero (Elt F) cc0_stg4_0 hz2 _ _

/-- A load of a slot of a halo buffer reads that slot of what the buffer holds; -/
theorem read_l (r : Rect S2x2x128x4x64) (f : (cc0_scratch1 : Ref sig .tc).ty.Contents (Elt F)) :
    (Memref.whole cc0_scratch1 : Memref sig .tc .vmem S2x2x128x4x64 .bf16).view.readAt (Elt F) r.toLoadRect f = View.ld (f : S2x2x128x4x64.Idx → Elt F .bf16) r := rfl
/-- the same of the other halo buffer; -/
theorem read_r (r : Rect S2x2x128x4x64) (f : (cc0_scratch2 : Ref sig .tc).ty.Contents (Elt F)) :
    (Memref.whole cc0_scratch2 : Memref sig .tc .vmem S2x2x128x4x64 .bf16).view.readAt (Elt F) r.toLoadRect f = View.ld (f : S2x2x128x4x64.Idx → Elt F .bf16) r := rfl
/-- slot 0 of what a device sent is its keys, slot 1 its values. -/
theorem sent_key (c : Dev nD) : View.ld (sent m c : S2x2x128x4x64.Idx → Elt F .bf16) slot0 = k0_pay2 (keyB m c) := ld_pack0 _ _
/-- And of the values. -/
theorem sent_val (c : Dev nD) : View.ld (sent m c : S2x2x128x4x64.Idx → Elt F .bf16) slot1 = k0_pay3 (valB m c) := ld_pack1 _ _

/-- What the send buffer holds once packed is what the device sends. -/
theorem kv_at (c : Dev nD) : ((((c : Thread nD τ).loc cc0_scratch0) ↦{fullShare} (pack (k0_pay2 (keyB m c)) (k0_pay3 (valB m c)) : (cc0_scratch0 : Ref sig .tc).ty.Contents (Elt F)) : sProp 𝕄))
    = (((c : Thread nD τ).loc cc0_scratch0) ↦{fullShare} sent m c : sProp 𝕄) := rfl

section Rules
variable (K : Dev nD × Fin 5 → ℕ)

/-- The signal in direction `w`: `c` hands the neighbour there `c`'s own halo buffer against `w`. -/
theorem wp_hand (w : Bool) (c n : Dev nD) (hn : n = tgt w c) (O O' : CellTallies nD τ sig Unit) (W : Waits sig Unit)
    (hO : O = O' + tallyAt (barCell (tgt w c)) () 1)
    {α : Type} {Q : α → sProp 𝕄} {k : PUnit → Prog (TpuEff nD τ sig (Elt F) Λ₀ .tc) α}
    (f : Buf (Elt F) ((haloM (!w)).view.loc (c : Thread nD τ))) :
    iprop(cellInv ER (rd m) (K (tgt w c, 0)) (barCell (tgt w c)) ∗ owes (c : Thread nD τ) O W
        ∗ dutyTok ER (barCell (tgt w c)) 0 (!w) ∗ haloPts (!w) c f ∗ reached ER (rcvCell (!w) c) 0 ∗ reached ER (barCell (tgt w c)) 0)
      ⊢ iprop((owes (c : Thread nD τ) O' W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS (1#32 : BitVec 32).toNat) k) Q) := by
  subst hn
  iintro ⟨#HI, HO, Ht, Hp, #Hr, #HrB⟩ Hk
  iapply (Rounds.wp_signal 𝒱₀ ER (rd m) (c : Thread nD τ) none (dst := (tgt w c : Thread nD τ)) (κ := K (tgt w c, 0))
      (d := !w) (by rw [duties_bar]; exact Finset.mem_univ _) ((amount_bar m (tgt w c) (!w)).trans (by decide)) () O' hO)
    $$ [HO Ht Hp]
  · isplitr; · iexact HI
    isplitl [HO]; · iexact HO
    isplitl [Ht]; · iexact Ht
    isplitl [Hp]
    · rw [payload_bar]; unfold barPay; rw [tgt_not]
      isplitl [Hp]; · iexists f; iexact Hp
      iexact Hr
    · iexact HrB
  iexact Hk

/-- The copy in direction `w`: reads `w`'s half of the packed send buffer, overwrites the neighbour's halo buffer `w`. -/
theorem wp_copy (w : Bool) (c n : Dev nD) (hn : n = tgt w c) (M : Memref sig .tc .vmem S2x2x128x4x64 .bf16) (hM : M = haloM w)
    (qs qr : DmaSem sig) (hqs : qs = sndS w) (hqr : qr = rcvS w) (O O' : CellTallies nD τ sig Unit) (W : Waits sig Unit)
    (hO : O = O' + tallyAt (rcvCell w (tgt w c)) () N)
    {hsc : (M : Memref sig (Dev.tc n : Thread nD τ).2.kind .vmem S2x2x128x4x64 .bf16).view.ref.isScScratch = false}
    {hsrc : (kvM : Memref sig .tc .vmem S2x2x128x4x64 .bf16).view.WordExact} {hdst : (M : Memref sig .tc .vmem S2x2x128x4x64 .bf16).view.WordExact}
    {hsem : DmaTarget.Typed .vmem (.dma qr) (.remote (Dev.tc n : Thread nD τ) (M : Memref sig .tc .vmem S2x2x128x4x64 .bf16) (.dma qs) hsc)}
    {α : Type} {Q : α → sProp 𝕄} {k : PUnit → Prog (TpuEff nD τ sig (Elt F) Λ₀ .tc) α}
    (f : Buf (Elt F) ((haloM w).view.loc (tgt w c : Thread nD τ))) :
    iprop(cellInv ER (rd m) (K (c, kS w)) (sndCell w c) ∗ cellInv ER (rd m) (K (tgt w c, kR w)) (rcvCell w (tgt w c))
        ∗ kvPts m w c ∗ haloPts w (tgt w c) f ∗ owes (c : Thread nD τ) O W
        ∗ dutyTok ER (sndCell w c) 0 false ∗ reached ER (sndCell w c) 0 ∗ dutyTok ER (rcvCell w (tgt w c)) 0 false ∗ reached ER (rcvCell w (tgt w c)) 0)
      ⊢ iprop(((cred (tallyAt (sndCell w c) () N) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma kvM (.remote (Dev.tc n : Thread nD τ) M (.dma qs) hsc) (.dma qr) hsrc hdst hsem) k) Q) := by
  subst hn hM hqs hqr
  unfold kvPts haloPts
  exact Rounds.wp_send_pointsTo 𝒱₀ ER (rd m) (c : Thread nD τ) none (κ₁ := K (c, kS w)) (κ₂ := K (tgt w c, kR w))
    (r₁ := 0) (r₂ := 0) (d₁ := false) (d₂ := false) (fd := f)
    (by rw [duties_snd]; exact Finset.mem_singleton_self _) (by rw [duties_rcv]; exact Finset.mem_singleton_self _)
    () () N (halo_amount w _) (amount_dma m c _ false) (amount_dma m (tgt w c) _ false) O' hO (W := W)
    (by rw [payload_snd]; exact BI.Entails.refl _)
    (by
      rw [payload_rcv]; unfold landed haloPts
      iintro H
      iexists ((haloM w).view.write (Elt F) f ((kvM : Memref sig .tc .vmem S2x2x128x4x64 .bf16).view.read (Elt F) (sent m c)) Finset.univ)
      isplitr
      · ipureintro; rw [View.read_write_univ, tgt_not]; exact View.read_whole cc0_scratch0 (sent m c)
      · iexact H)

/-- A wait on a transfer cell, owing nothing: returns the position advanced and the cell's payload. -/
theorem wp_await (c : Dev nD) (q q' : DmaSem sig) (hq' : q' = q) (hq : (rd (F := F) m).duties ((c : Thread nD τ), .dma q) 0 = {false}) (κ : ℕ) (W : Waits sig Unit)
    {src dst : Memref sig .tc .vmem S2x2x128x4x64 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(cellInv ER (rd m) κ ((c : Thread nD τ), .dma q) ∗ cred (tallyAt ((c : Thread nD τ), SemLoc.dma q) () N) ∗ owes (c : Thread nD τ) 0 W
        ∗ atPos ER ((c : Thread nD τ), .dma q) 0 ∅ 0)
      ⊢ iprop(((owes (c : Thread nD τ) 0 (insert (SemLoc.dma q, ()) W) ∗ atPos ER ((c : Thread nD τ), .dma q) (0 + 1) ∅ 0
            ∗ (rd (F := F) m).payload ((c : Thread nD τ), .dma q) 0 false) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' src dst hsrc hdst) k) Q) := by
  subst hq'
  iintro ⟨#HI, Hc, HO, Hat⟩ Hk
  iapply (Rounds.wp_wait_rest_token 𝒱₀ ER (rd m) (c : Thread nD τ) none (κ := κ)
      (wpE_waitDma2_eq 𝒱₀ (c : Thread nD τ) none Set.univ) (Set.mem_univ _) () (O := 0) (W := W) (R := 0) (m := 0) (T := ∅)
      (by rw [Nat.zero_add, hN, expect_dma m c _ hq])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_dma m c _ hq)); iexact Hpay

end Rules

/-- A staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Owning a whole staging buffer, in those words. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- Device `c` before the body: the protocol's start, the scratch buffers, the six staging buffers. -/
def bodyPre (K : Dev nD × Fin 5 → ℕ) (c : Dev nD) : sProp 𝕄 :=
  iprop((ghost m K c ∗ cred (tallyAt (barCell c) () 2) ∗ cred (tallyAt (rcvCell false c) () N) ∗ cred (tallyAt (rcvCell true c) () N) ∗ levAts L lv
      ∗ (∃ f : Buf (Elt F) ((c : Thread nD τ).loc cc0_scratch0), ((c : Thread nD τ).loc cc0_scratch0) ↦{fullShare} f) ∗ (∃ f, haloPts false c f) ∗ ∃ f, haloPts true c f)
    ∗ (dats m 0 c).owesAt () (t0_0 : Fin cfg0.N).castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

/-- And after. -/
def bodyPost (c : Dev nD) : sProp 𝕄 :=
  iprop(Φ₁ c ∗ (dats m 0 c).owesAt () (t0_0 : Fin cfg0.N).succ ∗ stg c cc0_stg0_0 (xB m c) ∗ stg c cc0_stg1_0 (wqB m c) ∗ stg c cc0_stg2_0 (keyB m c)
    ∗ stg c cc0_stg3_0 (valB m c) ∗ stg c cc0_stg4_0 (woB m c) ∗ stg c cc0_stg5_0 (outAt m c))

set_option maxHeartbeats 2000000 in
/-- The body, executed from `bodyPre`, one rule per effect in program order, ends in `bodyPost`. -/
theorem sound_body (K : Dev nD × Fin 5 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [semSignalWord, semWaitWord, Prog.lift, Prog.bind_op, Prog.bind_ret, Prog.pure_eq_ret, Prog.bind_assoc, wp_deviceId]
  unfold bodyPre ghost known stake
  iintro ⟨⟨⟨⟨#HIB, ⟨#HIs0, #HIr0, #HIB0, #HIR0, #HrB0, #HrR0, #Hrs0, #Hrr0⟩, ⟨#HIs1, #HIr1, #HIB1, #HIR1, #HrB1, #HrR1, #Hrs1, #Hrr1⟩,
      HatB, ⟨⟨Hats0, Hatr0⟩, HtB0, HtR0, Hts0⟩, ⟨⟨Hats1, Hatr1⟩, HtB1, HtR1, Hts1⟩⟩, HcB, Hcr0, Hcr1, #Hlev, ⟨%fk, Hkv⟩, ⟨%fl, Hl⟩, ⟨%fr, Hr⟩⟩,
    Ho, ⟨%d0, %g0, %hg0, Hx⟩, ⟨%d1, %g1, %hg1, Hwq⟩, ⟨%d2, %g2, %hg2, Hkey⟩, ⟨%d3, %g3, %hg3, Hval⟩, ⟨%d4, %g4, %hg4, Hwo⟩, ⟨%d5, %g5, %hg5, Hout⟩⟩, Hk⟩
  have h0 : g0 = xB m c := by rw [hg0]; unfold Dat.before; rw [if_pos (fetch0_0 t0_0)]; rfl
  have h1 : g1 = wqB m c := by rw [hg1]; unfold Dat.before; rw [if_pos (fetch0_1 t0_0)]; rfl
  have h2 : g2 = keyB m c := by rw [hg2]; unfold Dat.before; rw [if_pos (fetch0_2 t0_0)]; rfl
  have h3 : g3 = valB m c := by rw [hg3]; unfold Dat.before; rw [if_pos (fetch0_3 t0_0)]; rfl
  have h4 : g4 = woB m c := by rw [hg4]; unfold Dat.before; rw [if_pos (fetch0_4 t0_0)]; rfl
  subst h0 h1 h2 h3 h4
  unfold Dat.owesAt Pipeline.owesWithin
  icases Ho with ⟨%W, %hW, HO⟩
  rw [show (dats m 0 c).owed (t0_0 : Fin cfg0.N).castSucc = O₀ c from rfl]
  -- the send buffer packed
  iapply (wp_load 𝒱₀ (c : Thread nD τ) none Set.univ (m := keyM) (Finset.subset_univ _)) $$ Hkey; iintro Hkey
  iapply (wp_load 𝒱₀ (c : Thread nD τ) none Set.univ (m := kvM) (Finset.subset_univ _)) $$ Hkv; iintro Hkv
  iapply (wp_store 𝒱₀ (c : Thread nD τ) none Set.univ (m := kvM) (r := slot0) (Mk := Finset.univ) (Finset.subset_univ _)) $$ Hkv; iintro Hkv
  iapply (wp_load 𝒱₀ (c : Thread nD τ) none Set.univ (m := valM) (Finset.subset_univ _)) $$ Hval; iintro Hval
  iapply (wp_load 𝒱₀ (c : Thread nD τ) none Set.univ (m := kvM) (Finset.subset_univ _)) $$ Hkv; iintro Hkv
  iapply (wp_store 𝒱₀ (c : Thread nD τ) none Set.univ (m := kvM) (r := slot1) (Mk := Finset.univ) (Finset.subset_univ _)) $$ Hkv; iintro Hkv
  rw [read_key, read_val, write_pack]
  ihave Hkv := (Entails.of_eq (kv_at m c)) $$ Hkv
  -- the two signals
  iapply (wp_hand m K true c _ (dev1_eq c) (O₀ c) (O₁ c) W rfl fl) $$ [HO HtB1 Hl]
  · isplitr; · iexact HIB1
    isplitl [HO]; · iexact HO
    isplitl [HtB1]; · iexact HtB1
    isplitl [Hl]; · iexact Hl
    isplitr; · iexact Hrr0
    iexact HrB1
  iintro HO
  iapply (wp_hand m K false c _ (dev2_eq c) (O₁ c) (O₂ c) W rfl fr) $$ [HO HtB0 Hr]
  · isplitr; · iexact HIB0
    isplitl [HO]; · iexact HO
    isplitl [HtB0]; · iexact HtB0
    isplitl [Hr]; · iexact Hr
    isplitr; · iexact Hrr1
    iexact HrB0
  iintro HO
  -- the wait for both neighbours
  iapply (Rounds.wp_wait_rest_token 𝒱₀ ER (rd m) (c : Thread nD τ) none (κ := K (c, 0))
      (wpE_semWait_eq 𝒱₀ (c : Thread nD τ) none Set.univ) (Set.mem_univ _) () (O := O₂ c) (W := W) (R := 0) (m := 0) (T := ∅)
      (by rw [expect_bar]; decide)) $$ [HcB HO HatB]
  · isplitr; · iexact HIB
    isplitl [HcB]; · iexact HcB
    isplitl [HO]; · iexact HO
    isplitr; · iapply (mayWait_bar c); iexact Hlev
    iexact HatB
  iintro ⟨HO, HatB, -, Hpay⟩
  ihave Hp2 := (Entails.of_eq (rest_bar m c)) $$ Hpay
  unfold barPay
  icases Hp2 with ⟨⟨⟨%gl, HL⟩, #HrR0'⟩, ⟨%gr, HR⟩, #HrR1'⟩
  ihave Hkv2 := (kv_halves m c).1 $$ Hkv
  icases Hkv2 with ⟨Hk0, Hk1⟩
  -- the two copies
  iapply (wp_copy m K false c _ (dev3_eq c) (Memref.whole cc0_scratch1) rfl _ _ slice_s0 slice_r0 (O₂ c) (O₃ c) _ rfl gl) $$ [Hk0 HL HO Hts0 HtR0]
  · isplitr; · iexact HIs0
    isplitr; · iexact HIR0
    isplitl [Hk0]; · iexact Hk0
    isplitl [HL]; · iexact HL
    isplitl [HO]; · iexact HO
    isplitl [Hts0]; · iexact Hts0
    isplitr; · iexact Hrs0
    isplitl [HtR0]; · iexact HtR0
    iexact HrR0
  iintro ⟨Hcs0, HO⟩
  iapply (wp_copy m K true c _ (dev4_eq c) (Memref.whole cc0_scratch2) rfl _ _ slice_s1 slice_r1 (O₃ c) 0 _ (by unfold O₃; rw [zero_add]) gr) $$ [Hk1 HR HO Hts1 HtR1]
  · isplitr; · iexact HIs1
    isplitr; · iexact HIR1
    isplitl [Hk1]; · iexact Hk1
    isplitl [HR]; · iexact HR
    isplitl [HO]; · iexact HO
    isplitl [Hts1]; · iexact Hts1
    isplitr; · iexact Hrs1
    isplitl [HtR1]; · iexact HtR1
    iexact HrR1
  iintro ⟨Hcs1, HO⟩
  -- the loads of the operands
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hwq; iintro Hwq
  iapply (wp_load 𝒱₀ (c : Thread nD τ) none Set.univ (m := keyM) (Finset.subset_univ _)) $$ Hkey; iintro Hkey
  iapply (wp_load 𝒱₀ (c : Thread nD τ) none Set.univ (m := valM) (Finset.subset_univ _)) $$ Hval; iintro Hval
  rw [read_key, read_val, read_x, read_wq]
  -- the four waits
  iapply (wp_await m c (sndS false) _ slice_s0 (duties_snd m c false) (K (c, kS false)) _ (src := Memref.whole cc0_scratch1) (dst := Memref.whole cc0_scratch0) rfl) $$ [Hcs0 HO Hats0]
  · isplitr; · iexact HIs0
    isplitl [Hcs0]; · iexact Hcs0
    isplitl [HO] <;> iassumption
  iintro ⟨HO, Hats0, Hk0'⟩
  ihave Hk0 := (Entails.of_eq (payload_snd m c false false)) $$ Hk0'
  iapply (wp_await m c (rcvS false) _ slice_r0 (duties_rcv m c false) (K (c, kR false)) _ (src := Memref.whole cc0_scratch0) (dst := Memref.whole cc0_scratch1) rfl) $$ [Hcr0 HO Hatr0]
  · isplitr; · iexact HIr0
    isplitl [Hcr0]; · iexact Hcr0
    isplitl [HO] <;> iassumption
  iintro ⟨HO, Hatr0, Hl'⟩
  ihave Hl := (Entails.of_eq (payload_rcv m c false false)) $$ Hl'
  iapply (wp_await m c (sndS true) _ slice_s1 (duties_snd m c true) (K (c, kS true)) _ (src := Memref.whole cc0_scratch2) (dst := Memref.whole cc0_scratch0) rfl) $$ [Hcs1 HO Hats1]
  · isplitr; · iexact HIs1
    isplitl [Hcs1]; · iexact Hcs1
    isplitl [HO] <;> iassumption
  iintro ⟨HO, Hats1, Hk1'⟩
  ihave Hk1 := (Entails.of_eq (payload_snd m c true false)) $$ Hk1'
  iapply (wp_await m c (rcvS true) _ slice_r1 (duties_rcv m c true) (K (c, kR true)) _ (src := Memref.whole cc0_scratch0) (dst := Memref.whole cc0_scratch2) rfl) $$ [Hcr1 HO Hatr1]
  · isplitr; · iexact HIr1
    isplitl [Hcr1]; · iexact Hcr1
    isplitl [HO] <;> iassumption
  iintro ⟨HO, Hatr1, Hr'⟩
  ihave Hr := (Entails.of_eq (payload_rcv m c true false)) $$ Hr'
  unfold landed
  icases Hl with ⟨%hl, %hhl, Hl⟩
  icases Hr with ⟨%hr, %hhr, Hr⟩
  have el : hl = sent m (tgt true c) := hhl
  have er : hr = sent m (tgt false c) := hhr
  subst el er
  ihave Hl := (Entails.of_eq (haloPts_false c _)) $$ Hl
  ihave Hr := (Entails.of_eq (haloPts_true c _)) $$ Hr
  ihave Hkv := (kv_halves m c).2 $$ [Hk0 Hk1]
  · isplitl [Hk0] <;> iassumption
  -- the five cells close
  imod (Rounds.cell_close ER (rd m) (Set.mem_univ (K (c, 0))) (fun h => h) (R := 0 + 1) (duties_later m (barCell c))) $$ [HatB] with HzB
  · isplitr; · iexact HIB
    iexact HatB
  imod (Rounds.cell_close ER (rd m) (Set.mem_univ (K (c, kS false))) (fun h => h) (R := 0 + 1) (duties_later m (sndCell false c))) $$ [Hats0] with Hzs0
  · isplitr; · iexact HIs0
    iexact Hats0
  imod (Rounds.cell_close ER (rd m) (Set.mem_univ (K (c, kR false))) (fun h => h) (R := 0 + 1) (duties_later m (rcvCell false c))) $$ [Hatr0] with Hzr0
  · isplitr; · iexact HIr0
    iexact Hatr0
  imod (Rounds.cell_close ER (rd m) (Set.mem_univ (K (c, kS true))) (fun h => h) (R := 0 + 1) (duties_later m (sndCell true c))) $$ [Hats1] with Hzs1
  · isplitr; · iexact HIs1
    iexact Hats1
  imod (Rounds.cell_close ER (rd m) (Set.mem_univ (K (c, kR true))) (fun h => h) (R := 0 + 1) (duties_later m (rcvCell true c))) $$ [Hatr1] with Hzr1
  · isplitr; · iexact HIr1
    iexact Hatr1
  -- the loads of the halos and of the output weights, the stores of the two rows
  iapply (wp_load 𝒱₀ (c : Thread nD τ) none Set.univ (m := Memref.whole cc0_scratch1) (Finset.subset_univ _)) $$ Hl; iintro Hl
  iapply (wp_load 𝒱₀ (c : Thread nD τ) none Set.univ (m := Memref.whole cc0_scratch2) (Finset.subset_univ _)) $$ Hr; iintro Hr
  iapply (wp_load 𝒱₀ (c : Thread nD τ) none Set.univ (m := Memref.whole cc0_scratch1) (Finset.subset_univ _)) $$ Hl; iintro Hl
  iapply (wp_load 𝒱₀ (c : Thread nD τ) none Set.univ (m := Memref.whole cc0_scratch2) (Finset.subset_univ _)) $$ Hr; iintro Hr
  iapply (wp_load 𝒱₀ (c : Thread nD τ) none Set.univ (m := woM) (Finset.subset_univ _)) $$ Hwo; iintro Hwo
  rw [read_wo, (read_l slot0 _).trans (sent_key m _), (read_r slot0 _).trans (sent_key m _), (read_l slot1 _).trans (sent_val m _), (read_r slot1 _).trans (sent_val m _)]
  iapply (wp_load 𝒱₀ (c : Thread nD τ) none Set.univ (m := outM) (Finset.subset_univ _)) $$ Hout; iintro Hout
  iapply (wp_store 𝒱₀ (c : Thread nD τ) none Set.univ (m := outM) (r := row0R) (Mk := Finset.univ) (Finset.subset_univ _)) $$ Hout; iintro Hout
  iapply (wp_load 𝒱₀ (c : Thread nD τ) none Set.univ (m := outM) (Finset.subset_univ _)) $$ Hout; iintro Hout
  iapply (wp_store 𝒱₀ (c : Thread nD τ) none Set.univ (m := outM) (r := row1R) (Mk := Finset.univ) (Finset.subset_univ _)) $$ Hout; iintro Hout
  rw [write_rows, wp_ret]; imodintro
  iapply Hk
  unfold bodyPost Φ₁ Dat.owesAt Pipeline.owesWithin
  rw [show (dats m 0 c).owed (t0_0 : Fin cfg0.N).succ = 0 from rfl]
  isplitl [Hkv Hl Hr HzB Hzs0 Hzr0 Hzs1 Hzr1]
  · isplitl [Hkv]; · iexists _; iexact Hkv
    isplitl [Hl]; · iexists (sent m (tgt true c)); rw [haloPts_false]; iexact Hl
    isplitl [Hr]; · iexists (sent m (tgt false c)); rw [haloPts_true]; iexact Hr
    isplitl [HzB]; · iexact HzB
    isplitl [Hzs0]; · iexact Hzs0
    isplitl [Hzr0]; · iexact Hzr0
    isplitl [Hzs1] <;> iassumption
  isplitl [HO]
  · iexists (insert (SemLoc.dma (rcvS true), ()) (insert (SemLoc.dma (sndS true), ()) (insert (SemLoc.dma (rcvS false), ()) (insert (SemLoc.dma (sndS false), ()) (insert (SemLoc.reg barS, ()) W)))))
    isplitr
    · ipureintro; exact fun _ _ => Or.inl trivial
    · iexact HO
  isplitl [Hx]
  · iexists _; isplitr; · (ipureintro; rfl)
    iexact Hx
  isplitl [Hwq]
  · iexists _; isplitr; · (ipureintro; rfl)
    iexact Hwq
  isplitl [Hkey]
  · iexists _; isplitr; · (ipureintro; rfl)
    iexact Hkey
  isplitl [Hval]
  · iexists _; isplitr; · (ipureintro; rfl)
    iexact Hval
  isplitl [Hwo]
  · iexists _; isplitr; · (ipureintro; rfl)
    iexact Hwo
  iexists _; isplitr
  · ipureintro; rfl
  iexact Hout

end Cert.KernelIdeal.Ring

end
-- ==== Proof.Ideal.Launch.lean ====
/-
# The launch

The 32 devices start together: the cells' invariants are allocated, the duty tokens dealt round the ring in both
directions, and every device runs the body. Every weakly fair execution of @main ends, with the operands unchanged, the
result's array at the computed contents, and every semaphore at zero.
-/
module

public import proofs.«01_k».proof.Proof.Ideal.Body
public import Idealize.ShloMosaic.Lib.Quiescent
public import Idealize.ShloMosaic.Lib.Pipeline.CollectiveSegs

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

set_option maxRecDepth 4000 in
/-- What the body's obligation holds before the body. -/
def bodyPre' (c : Dev nD) : sProp 𝕄 :=
  iprop(Φ₀ m c ∗ (dats m 0 c).owesAt () (t0_0 : Fin cfg0.N).castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

attribute [local irreducible] outAt in
/-- The pipeline's obligation on the body. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4) (fun _ => bodyPost m c)
  unfold bodyPre' Φ₀ start
  iintro ⟨⟨⟨⟨%K, Hg⟩, Hrest⟩, Hs⟩, Hstg⟩
  iapply (sound_body m K c fun _ => bodyPost m c)
  unfold bodyPre
  isplitr []
  · isplitl [Hg Hrest Hs]
    · isplitl [Hg]; · iexact Hg
      icases Hrest with ⟨H1, H2, H3, H4⟩
      isplitl [H1]; · iexact H1
      isplitl [H2]; · iexact H2
      isplitl [H3]; · iexact H3
      isplitl [H4] <;> iassumption
    iexact Hstg
  · iintro H; iexact H

/-! ## Cells and tokens at launch -/

/-- The kernel's own semaphores: the four transfer semaphores. -/
abbrev osem : Fin 4 → SemLoc sig := fun k => csem k.succ
theorem ownSemFacts : Pipeline.OwnSemFacts cfg0.spec osem := by decide
/-- Every window holds its array in full. -/
theorem share_eq (c : Dev nD) (w : Fin cfg0.W) : (dats m 0 c).share w = fullShare := by unfold Dat.share; split <;> rfl

/-- The five counters of a device differ. -/
theorem csem_injective : Function.Injective csem := by decide
/-- The counters of all devices differ. -/
theorem kcell_injective : Function.Injective (kcell : Dev nD × Fin 5 → GSem nD τ sig) := fun a b h =>
  Prod.ext (congrArg (fun g : GSem nD τ sig => g.1.1) h) (csem_injective (congrArg Prod.snd h))
/-- All counters of the protocol. -/
def ringCells : Finset (GSem nD τ sig) := Finset.univ.map ⟨kcell, kcell_injective⟩

/-- The place of direction `w`'s send counter. -/
theorem kcell_kS (w : Bool) (c : Dev nD) : kcell (c, kS w) = sndCell w c := by cases w <;> rfl
/-- The place of direction `w`'s receive counter. -/
theorem kcell_kR (w : Bool) (c : Dev nD) : kcell (c, kR w) = rcvCell w c := by cases w <;> rfl

/-- The duty tokens of a device's cells, by direction: the barrier's duty of that name, the send cell's, the receive cell's. -/
abbrev tokOf (x : Dev nD × Bool × Fin 3) : GSem nD τ sig × ℕ × Bool := match x.2.2 with
  | 0 => (barCell x.1, 0, x.2.1) | 1 => (sndCell x.2.1 x.1, 0, false) | 2 => (rcvCell x.2.1 x.1, 0, false)
/-- The six tokens of one device differ. -/
theorem tokKind_injective : Function.Injective (fun x : Bool × Fin 3 => ((tokOf (0, x)).1.2, (tokOf (0, x)).2.2)) := by decide
/-- The tokens of all devices differ. -/
theorem tokOf_injective : Function.Injective (tokOf : Dev nD × Bool × Fin 3 → GSem nD τ sig × ℕ × Bool) := by
  have hk (c : Dev nD) (x : Bool × Fin 3) : ((tokOf (c, x)).1.2, (tokOf (c, x)).2.2) = ((tokOf (0, x)).1.2, (tokOf (0, x)).2.2) := by
    obtain ⟨w, j⟩ := x; fin_cases j <;> rfl
  have hd (c : Dev nD) (x : Bool × Fin 3) : (tokOf (c, x)).1.1.1 = c := by obtain ⟨w, j⟩ := x; fin_cases j <;> rfl
  rintro ⟨c, x⟩ ⟨c', x'⟩ h
  refine Prod.ext ?_ (tokKind_injective ?_)
  · have := congrArg (fun y : GSem nD τ sig × ℕ × Bool => y.1.1.1) h
    rwa [hd, hd] at this
  · have := congrArg (fun y : GSem nD τ sig × ℕ × Bool => (y.1.2, y.2.2)) h
    rwa [hk c x, hk c' x'] at this
/-- All duty tokens of the protocol. -/
def ringToks : Finset (GSem nD τ sig × ℕ × Bool) := Finset.univ.map ⟨tokOf, tokOf_injective⟩

/-- The resources at launch: the pipeline's and the protocol's. -/
def u₀ : UU := (initOf (Pipeline.cells cfgs cellOf_inj) (Pipeline.launchToks cfgs cellOf_inj), initOf ringCells ringToks)

/-- Direction `w`'s tokens of device `c`'s own cells; -/
def tok (w : Bool) (c : Dev nD) : sProp 𝕄 :=
  iprop(dutyTok ER (barCell c) 0 w ∗ dutyTok ER (sndCell w c) 0 false ∗ dutyTok ER (rcvCell w c) 0 false)
/-- direction `w`'s tokens of the duties device `c` pays. -/
def pay (w : Bool) (c : Dev nD) : sProp 𝕄 :=
  iprop(dutyTok ER (barCell (tgt w c)) 0 (!w) ∗ dutyTok ER (rcvCell w (tgt w c)) 0 false ∗ dutyTok ER (sndCell w c) 0 false)

/-- What device `c` gets at launch: its counters' states, its positions, the tokens of its own counters. -/
def G (c : Dev nD) : sProp 𝕄 :=
  iprop((bigSep Finset.univ fun k : Fin 5 => roundState ER (rd m) (kcell (c, k)) 0)
    ∗ (bigSep Finset.univ fun k : Fin 5 => iprop(atPos ER (kcell (c, k)) 0 ∅ 0 ∗ reached ER (kcell (c, k)) 0)) ∗ tok false c ∗ tok true c)
/-- What it ends up with once tokens are passed round. -/
def G' (c : Dev nD) : sProp 𝕄 := iprop(∃ K, ghost m K c)

/-- Five things, one by one. -/
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
/-- Three things, one by one. -/
theorem bigSep_fin3 (Φ : Fin 3 → sProp 𝕄) : bigSep Finset.univ Φ = iprop(Φ 0 ∗ Φ 1 ∗ Φ 2) := bigSep_univ_eq_bigSepL [0, 1, 2] (by decide) (by decide) Φ
/-- Two things, one by one. -/
theorem bigSep_bool (Φ : Bool → sProp 𝕄) : bigSep Finset.univ Φ = iprop(Φ false ∗ Φ true) := bigSep_univ_eq_bigSepL [false, true] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 5 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => iprop(tok false c ∗ tok true c) := by
    unfold ringToks; rw [bigSep_map, bigSep_univ_prod]
    refine bigSep_congr fun c _ => ?_
    rw [bigSep_univ_prod, bigSep_bool]; unfold tok; rw [bigSep_fin3, bigSep_fin3]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq (hT.trans (bigSep_sep' _ _ _))) $$ Htok
  unfold G; simp only [bigSep_sep']
  isplitl [Hst']; · iexact Hst'
  isplitl [Hat' Hr']
  · isplitl [Hat'] <;> iassumption
  iexact Htok'

/-- The transfer semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (sndCell false c) 0 ∗ semVal (rcvCell false c) 0 ∗ semVal (sndCell true c) 0 ∗ semVal (rcvCell true c) 0) := by
  rw [Pipeline.ownSems0_eq_of_list c osem [0, 1, 2, 3] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- One device's cells allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ tok false c ∗ tok true c) := by
  unfold G
  rw [ownSems0_eq, unscopedSems0_eq]
  iintro ⟨Hos, Hus, Hst, Hrest⟩
  ihave Hv := (Entails.of_eq (bigSep_fin5 (F := F) fun k => semVal (kcell (c, k)) 0).symm) $$ [Hos Hus]
  · isplitl [Hus] <;> iassumption
  imod (show iprop((bigSep Finset.univ fun k : Fin 5 => semVal (kcell (c, k)) 0) ∗ bigSep Finset.univ fun k : Fin 5 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv] <;> iassumption

/-- What every device knows: all cells' invariants, and that they stand at round 0 or later. -/
def records (K : Dev nD × Fin 5 → ℕ) : sProp 𝕄 :=
  iprop((bigSep Finset.univ fun ck : Dev nD × Fin 5 => cellInv ER (rd m) (K ck) (kcell ck))
    ∗ bigSep Finset.univ fun ck : Dev nD × Fin 5 => reached ER (kcell ck) 0)
instance records_persistent (K : Dev nD × Fin 5 → ℕ) : BI.Persistent (records m K) := by unfold records; infer_instance

/-- One counter's invariant out of all. -/
theorem inv_at (K : Dev nD × Fin 5 → ℕ) (ck : Dev nD × Fin 5) :
    (bigSep Finset.univ fun ck : Dev nD × Fin 5 => (cellInv ER (rd m) (K ck) (kcell ck) : sProp 𝕄)) ⊢ cellInv ER (rd m) (K ck) (kcell ck) :=
  bigSep_elim (Finset.mem_univ ck)
/-- One counter's round out of all. -/
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- Direction `w`'s records picked out for device `c`. -/
theorem known_intro (K : Dev nD × Fin 5 → ℕ) (w : Bool) (c : Dev nD) : records m K ⊢ known m K w c := by
  unfold records known
  rw [← kcell_kS, ← kcell_kR, ← kcell_kR]
  iintro ⟨#HI, #HR⟩
  isplitr; · iapply (inv_at m K (c, kS w)); iexact HI
  isplitr; · iapply (inv_at m K (c, kR w)); iexact HI
  isplitr; · iapply (inv_at m K (tgt w c, 0)); iexact HI
  isplitr; · iapply (inv_at m K (tgt w c, kR w)); iexact HI
  isplitr; · iapply (reached_at (F := F) (tgt w c, 0)); iexact HR
  isplitr; · iapply (reached_at (F := F) (tgt w c, kR w)); iexact HR
  isplitr; · iapply (reached_at (F := F) (c, kS w)); iexact HR
  iapply (reached_at (F := F) (c, kR w)); iexact HR

/-- What stays with device `c` alone: its positions, the tokens it pays. -/
def linear (c : Dev nD) : sProp 𝕄 :=
  iprop((bigSep Finset.univ fun k : Fin 5 => atPos ER (kcell (c, k)) 0 ∅ 0) ∗ pay false c ∗ pay true c)

/-- From what all know and what stays with it, a device has its part of the protocol. -/
theorem ghost_intro (K : Dev nD × Fin 5 → ℕ) (c : Dev nD) : iprop(records m K ∗ linear c) ⊢ G' m c := by
  unfold linear pay G' ghost stake
  rw [bigSep_fin5]
  iintro ⟨#HR, ⟨HaB, HaS0, HaR0, HaS1, HaR1⟩, Hp0, Hp1⟩
  iexists K
  isplitr
  · iapply (show records m K ⊢ cellInv ER (rd m) (K (c, 0)) (barCell c) from by
      unfold records; iintro ⟨#HI, -⟩; iapply (inv_at m K (c, 0)); iexact HI)
    iexact HR
  isplitr; · iapply (known_intro m K false c); iexact HR
  isplitr; · iapply (known_intro m K true c); iexact HR
  isplitl [HaB]; · iexact HaB
  isplitl [HaS0 HaR0 Hp0]
  · isplitl [HaS0 HaR0]
    · isplitl [HaS0] <;> iassumption
    iexact Hp0
  isplitl [HaS1 HaR1]
  · isplitl [HaS1] <;> iassumption
  iexact Hp1

/-- The tokens dealt round the ring, each to the device that pays it. -/
theorem toks_around : (bigSep Finset.univ fun c : Dev nD => iprop(tok false c ∗ tok true c) : sProp 𝕄) ⊢ bigSep Finset.univ fun c : Dev nD => iprop(pay false c ∗ pay true c) := by
  unfold tok pay
  simp only [bigSep_sep']
  rw [bigSep_univ_equiv (turn true) (fun c : Dev nD => (dutyTok ER (barCell c) 0 false : sProp 𝕄)),
    bigSep_univ_equiv (turn false) (fun c : Dev nD => (dutyTok ER (barCell c) 0 true : sProp 𝕄)),
    bigSep_univ_equiv (turn false) (fun c : Dev nD => (dutyTok ER (rcvCell false c) 0 false : sProp 𝕄)),
    bigSep_univ_equiv (turn true) (fun c : Dev nD => (dutyTok ER (rcvCell true c) 0 false : sProp 𝕄))]
  iintro ⟨⟨HyF, HsF, HrF⟩, HyT, HsT, HrT⟩
  isplitl [HyT HrF HsF]
  · isplitl [HyT]; · iexact HyT
    isplitl [HrF]; · iexact HrF
    iexact HsF
  isplitl [HyF]; · iexact HyF
  isplitl [HrT]; · iexact HrT
  iexact HsT

/-- What is known for good serves every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- From each device's own counters and tokens, each device has its part of the protocol. -/
theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ tok false c ∗ tok true c) : sProp 𝕄)
      ⊢ bigSep Finset.univ (G' m) := by
  rw [bigSep_sep', bigSep_sep', ← bigSep_univ_prod (fun ck : Dev nD × Fin 5 => iprop(∃ κ : ℕ, cellInv ER (rd m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 5 => (atPos ER (kcell (c, k)) 0 ∅ 0 : sProp 𝕄)) (fun c => iprop(pay false c ∗ pay true c))).symm)
    isplitl [Hat] <;> iassumption

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What device `d` owes a cell. -/
theorem owed_apply (d : Dev nD) (g : GSem nD τ sig) : O₀ d g ()
    = (((if g = rcvCell true (tgt true d) then N else 0) + (if g = rcvCell false (tgt false d) then N else 0)) + (if g = barCell (tgt false d) then 1 else 0))
      + (if g = barCell (tgt true d) then 1 else 0) := by
  unfold O₀ O₁ O₂ O₃
  simp only [Pi.add_apply, Finsupp.add_apply, tallyAt_apply, and_true]

/-- The same semaphore of two devices is one cell only if the devices are one: so what `d` pays in direction `w` goes to
    `c` exactly if `d` is the device before `c` in that direction. -/
theorem cell_tgt_iff (sm : SemLoc sig) (w : Bool) (c d : Dev nD) :
    Iff ((((c : Thread nD τ), sm) : GSem nD τ sig) = ((tgt w d : Thread nD τ), sm)) (d = tgt (!w) c) := by
  refine ⟨fun h => ?_, fun h => by rw [h, tgt_not']⟩
  have h' : c = tgt w d := congrArg (fun g : GSem nD τ sig => g.1.1) h
  rw [h', tgt_not]

/-- A barrier counter is owed a unit by each neighbour. -/
theorem owed_bar (d c : Dev nD) : O₀ d (barCell c) () = (if d = tgt true c then 1 else 0) + (if d = tgt false c then 1 else 0) := by
  rw [owed_apply, if_neg (show ¬ barCell c = rcvCell true (tgt true d) from fun h => by cases h), if_neg (show ¬ barCell c = rcvCell false (tgt false d) from fun h => by cases h)]
  simp only [Nat.zero_add, cell_tgt_iff]
  rfl
/-- A receive counter is owed one copy by the neighbour against its direction. -/
theorem owed_rcv (w : Bool) (d c : Dev nD) : O₀ d (rcvCell w c) () = if d = tgt (!w) c then N else 0 := by
  rw [owed_apply, if_neg (show ¬ rcvCell w c = barCell (tgt true d) from fun h => by cases h), if_neg (show ¬ rcvCell w c = barCell (tgt false d) from fun h => by cases h)]
  have hne (h : ¬ w = true) : ¬ rcvCell w c = rcvCell true (tgt true d) := fun e => h (rcv_inj (SemLoc.dma.inj (congrArg Prod.snd e)))
  have hne' (h : ¬ w = false) : ¬ rcvCell w c = rcvCell false (tgt false d) := fun e => h (rcv_inj (SemLoc.dma.inj (congrArg Prod.snd e)))
  cases w
  · rw [if_neg (hne Bool.false_ne_true)]; simp only [Nat.zero_add, Nat.add_zero, cell_tgt_iff]
  · rw [if_neg (hne' Bool.true_eq_false_eq_False)]; simp only [Nat.zero_add, Nat.add_zero, cell_tgt_iff]

/-- So a barrier counter is credited two units at launch. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (tgt true c) fun _ => 1, Finset.sum_ite_eq' Finset.univ (tgt false c) fun _ => 1, if_pos (Finset.mem_univ _), if_pos (Finset.mem_univ _)]
/-- A receive counter is credited one copy at launch. -/
theorem launch_rcv (w : Bool) (c : Dev nD) :
    tallyOn (rcvCell w c) (launchCredit (Pipeline.owing O₀) 0 (rcvCell w c)) = (tallyAt (rcvCell w c) () N : CellTallies nD τ sig Unit) := by
  unfold tallyAt; refine congrArg _ (Finsupp.ext fun u => ?_); cases u
  rw [Pipeline.launchCredit_owing, Finsupp.single_eq_same, Finset.sum_congr rfl fun d _ => owed_rcv w d c, Finset.sum_ite_eq' Finset.univ (tgt (!w) c) fun _ => N, if_pos (Finset.mem_univ _)]

/-- The credits that a device starts with. -/
theorem creds (c : Dev nD) :
    (Pipeline.launchCred O₀ c : sProp 𝕄) ⊢ iprop(cred (tallyAt (barCell c) () 2) ∗ cred (tallyAt (rcvCell false c) () N) ∗ cred (tallyAt (rcvCell true c) () N)) := by
  rw [← launch_bar, ← launch_rcv, ← launch_rcv]
  unfold Pipeline.launchCred
  rw [bigSep_univ_at _ (SemLoc.reg barS), bigSep_erase (Finset.mem_erase.mpr ⟨(fun h => by cases h), Finset.mem_univ (SemLoc.dma (rcvS false))⟩)]
  refine sep_mono_right (sep_mono_right (bigSep_elim ?_))
  exact Finset.mem_erase.mpr ⟨by decide, Finset.mem_erase.mpr ⟨(fun h => by cases h), Finset.mem_univ _⟩⟩

/-! ## The launch theorem's side conditions -/

/-- What the launch hands a device makes its start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H2, HR, HL⟩
  imodintro
  unfold start G'
  isplitl
  · isplitl [HG]; · iexact HG
    isplitl [H2]; · iexact H2
    isplitl [HR]; · iexact HR
    isplitl [HL] <;> iassumption
  · iempintro

/-- With the kernel's scratch buffers, that is what holds before the body. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hk, ⟨%f, Hl⟩, ⟨%g, Hr⟩⟩
  isplitl [Hs]; · iexact Hs
  isplitl [Hk]; · iexact Hk
  isplitl [Hl]
  · iexists f; rw [haloPts_false]; iexact Hl
  · iexists g; rw [haloPts_true]; iexact Hr

/-- What holds after the body gives back the scratch buffers and the counters at zero. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁
  iintro ⟨Hk, ⟨%f, Hl⟩, ⟨%g, Hr⟩, HB, Hz⟩
  isplitl [HB]; · iexact HB
  isplitl [Hz]; · iexact Hz
  isplitl [Hk]; · iexact Hk
  isplitl [Hl]
  · iexists f; iapply (Entails.of_eq (haloPts_false c f)); iexact Hl
  · iexists g; iapply (Entails.of_eq (haloPts_true c g)); iexact Hr

/-- Every wait of the pipeline is allowed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What window `w`'s array holds on device `c` after the run. -/
def finalA (c : Dev nD) (w : Fin cfg0.W) : Buf (Elt F) ((cfg0.win w).arr.view.loc (c : Thread nD τ)) := (dats m 0 c).arrAt w cfg0.N

/-- Every window's array ends as `finalA`. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters, on 32 devices: every weakly fair execution of @main ends; every window's array holds
    `finalA`, and every counter is zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c)) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array holds after the run what it held. -/
theorem finalA_in (c : Dev nD) (w : Fin 6) (hw : w ≠ 5) : finalA m c w = m ((cfg0.win w).arr.view.loc (c : Thread nD τ)) := by
  fin_cases w <;> first | exact absurd rfl hw | exact (dats (F := F) m 0 c).arrAt_in _ rfl _

end Cert.KernelIdeal.Ring

end
-- ==== Proof.Ideal.Result.lean ====
/-
# The arrays of the run

Every window is its whole array: an operand's staged block is the operand, and the result's array ends holding what the
body computed of the operands.
-/
module

public import proofs.«01_k».proof.Proof.Ideal.Launch

@[expose] public section

set_option maxRecDepth 16384

noncomputable section

namespace Cert.KernelIdeal.Ring

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- The staged block of operand 0 is the operand. -/
theorem xB_eq (c : Dev nD) : xB m c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _

/-- The staged block of operand 1 is the operand. -/
theorem wqB_eq (c : Dev nD) : wqB m c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _

/-- The staged block of operand 2 is the operand. -/
theorem keyB_eq (c : Dev nD) : keyB m c = m ((c : Thread nD τ).loc main_arg2) :=
  Memref.read_access_unit_zero (Elt F) main_arg2 (off := fun a => (win0_2.index (0 : Fin 1)) a * main_arg2.ty.shape.size a)
    (funext fun a => by fin_cases a <;> decide) (fun a => by fin_cases a <;> decide) _

/-- The staged block of operand 3 is the operand. -/
theorem valB_eq (c : Dev nD) : valB m c = m ((c : Thread nD τ).loc main_arg3) :=
  Memref.read_access_unit_zero (Elt F) main_arg3 (off := fun a => (win0_3.index (0 : Fin 1)) a * main_arg3.ty.shape.size a)
    (funext fun a => by fin_cases a <;> decide) (fun a => by fin_cases a <;> decide) _

/-- The staged block of operand 4 is the operand. -/
theorem woB_eq (c : Dev nD) : woB m c = m ((c : Thread nD τ).loc main_arg4) :=
  Memref.read_access_unit_zero (Elt F) main_arg4 (off := fun a => (win0_4.index (0 : Fin 1)) a * main_arg4.ty.shape.size a)
    (funext fun a => by fin_cases a <;> decide) (fun a => by fin_cases a <;> decide) _

attribute [local irreducible] outAt in
/-- The result's array, read back, is what the body computed. -/
theorem finalA_read (c : Dev nD) : (win0_5.blk (0 : Fin 1)).view.read (Elt F) (finalA m c (5 : Fin 6)) = outAt m c := by
  unfold finalA
  rw [show cfg0.N = ((0 : Fin 1) : Fin cfg0.N).val + 1 from rfl, (dats m 0 c).arrAt_succ (5 : Fin 6) (0 : Fin 1)]
  rw [show (cfg0.win (5 : Fin 6)).flush (0 : Fin 1) = true from by decide, if_pos rfl]
  exact View.read_write_univ _ _

attribute [local irreducible] outAt in
/-- The result's array ends as what the body computed. -/
theorem finalA_out (c : Dev nD) : finalA m c (5 : Fin 6) = outAt m c :=
  (Memref.read_access_unit_zero (Elt F) main_v1 (off := fun a => (win0_5.index (0 : Fin 1)) a * main_v1.ty.shape.size a)
    (funext fun a => by fin_cases a <;> decide) (fun a => by fin_cases a <;> decide) _).symm.trans (finalA_read m c)

attribute [local irreducible] outAt in
/-- From any memory with zero counters every weakly fair execution of @main ends with the result's array at what the
    body computed, the arguments unchanged and every counter zero. -/
theorem run : θ_run defs (onTc (τ := τ) (main (F := F))) ⟨m, fun _ => 0, ρ⟩ (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => ⟨(h.1 c (5 : Fin 6)).trans (finalA_out m c),
    (h.1 c (0 : Fin 6)).trans (finalA_in m c 0 (by decide)), (h.1 c (1 : Fin 6)).trans (finalA_in m c 1 (by decide)),
    (h.1 c (2 : Fin 6)).trans (finalA_in m c 2 (by decide)), (h.1 c (3 : Fin 6)).trans (finalA_in m c 3 (by decide)),
    (h.1 c (4 : Fin 6)).trans (finalA_in m c 4 (by decide))⟩, h.2⟩) (run_main m ρ)

end Cert.KernelIdeal.Ring

end
-- ==== Proof.Frames.lean ====
/-
# The frames

Each program runs from any memory, ends, keeps its arguments and leaves every counter at zero: its run with the values
dropped. The naming of the mask's constant is the one site where the kernel and its idealized form differ.
-/
module

public import proofs.«01_k».proof.Defs
public import proofs.«01_k».proof.Proof.Bits.Result
public import proofs.«01_k».proof.Proof.Ideal.Result
public import proofs.«01_k».proof.Proof.Gen.ReferenceIdeal.Run

@[expose] public section

set_option maxRecDepth 16384

noncomputable section

namespace Cert.Frames

open Idealize.ShloMosaic Idealize.SL.Sem

/-- The kernel's frame. -/
theorem kernel : Cert.quiescent_Kernel (hKernel := Cert.Kernel.Gen.facts) := fun m g _ =>
  (θ_run Cert.Kernel.defs _ _).mono (fun _ h => ⟨fun c => (h.1 c).2, h.2⟩) (Cert.Kernel.Ring.run (F := Bits) m g)

/-- The idealized kernel's frame. -/
theorem kernelIdeal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Ring.run (F := Ideal) m g)

/-- The idealized reference's frame: it declares no semaphore. -/
theorem referenceIdeal : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The constant named: the mask's word stands for minus infinity. -/
theorem named : Cert.preserves_Kernel_KernelIdeal :=
  IdealRules.named_const.statement Cert.KernelIdeal.κ "mask" .f32 0xCE6E6B28#32 ⊥ rfl

end Cert.Frames

end
-- ==== Proof.Ideal.Head.lean ====
/-
# One head

The body computes the four heads of a batch one after another, in the same operations at other slices. Here the operations
of one head are written once, and each batch's rows are shown to be the projection of its four heads.
-/
module

public import proofs.«01_k».proof.Proof.Ideal.Proto

@[expose] public section

set_option maxRecDepth 16384

noncomputable section

namespace Cert.KernelIdeal.Ring

open Cert.KernelIdeal Cert.KernelIdeal.Gen
open Idealize.ShloMosaic Idealize.ShloMosaic.TcCoe

variable {F : FTy → Type} [FloatOps F] [Named F]

/-- A batch's and a head's own rows, as a matrix. -/
def cut {φ : FTy} (o : Fin 4 → Nat) (x : FVec F S2x128x4x64 φ) (h : S2x128x4x64.Slices o S1x128x1x64) : FVec F S128x64 φ :=
  shapeCast S128x64 (extractStridedSlice S1x128x1x64 o x h) shapeCasts_S1x128x1x64_S128x64

/-- A batch's and a head's halo rows, as a matrix. -/
def cutHalo {φ : FTy} (o : Fin 4 → Nat) (x : FVec F S2x256x4x64 φ) (h : S2x256x4x64.Slices o S1x256x1x64) : FVec F S256x64 φ :=
  shapeCast S256x64 (extractStridedSlice S1x256x1x64 o x h) shapeCasts_S1x256x1x64_S256x64

section Own

variable (q : FVec F S128x64 .f32) (k v : FVec F S128x64 .bf16)

/-- The scaled scores of the queries against the device's own keys; -/
def ownScores : FVec F S128x128 .f32 :=
  mulf (matmul dot_S128x64_S128x64_S128x128_1_1_0_0_n_n none q k (constant S128x128 .f32 0x00000000#32))
    (broadcast S128x128 (Scalar.ofBits .f32 0x3E000000#32))

/-- each query's greatest; -/
def ownMax : FVec F S128x1 .f32 :=
  shapeCast S128x1 (multiReduction .maximumf [1] S128 (ownScores q k) 0xFF800000#32 reduces_S128x128_S128 (.inl rfl) rfl) shapeCasts_S128_S128x1

/-- their exponentials; -/
def ownExp : FVec F S128x128 .f32 := exp (subf (ownScores q k) (broadcastTo S128x128 (ownMax q k) broadcasts_S128x1_S128x128))

/-- the sums of these; -/
def ownSum : FVec F S128x1 .f32 :=
  shapeCast S128x1 (multiReduction .add [1] S128 (ownExp q k) 0x00000000#32 reduces_S128x128_S128 (.inl rfl) rfl) shapeCasts_S128_S128x1

/-- and the values so weighted. -/
def ownAcc : FVec F S128x64 .f32 :=
  matmul dot_S128x128_S128x64_S128x64_1_0_0_1_n_n none (ownExp q k) v (constant S128x64 .f32 0x00000000#32)

end Own

section Merge

variable (q : FVec F S128x64 .f32) (m₁ l₁ : FVec F S128x1 .f32) (acc₁ : FVec F S128x64 .f32)
variable (msk : IVec S128x256 1) (kh vh : FVec F S256x64 .f32)

/-- The masked scores against the halo's keys; -/
def haloScores : FVec F S128x256 .f32 :=
  select msk
    (mulf (matmul dot_S128x64_S256x64_S128x256_1_1_0_0_n_n none q kh (constant S128x256 .f32 0x00000000#32))
      (broadcast S128x256 (Scalar.ofBits .f32 0x3E000000#32)))
    (broadcast S128x256 (Named.named κ "mask" 0xCE6E6B28#32))

/-- the maximum with the halo merged in; -/
def allMax : FVec F S128x1 .f32 :=
  maximumf m₁ (shapeCast S128x1 (multiReduction .maximumf [1] S128 (haloScores q msk kh) 0xFF800000#32 reduces_S128x256_S128 (.inl rfl) rfl) shapeCasts_S128_S128x1)

/-- the halo's exponentials; -/
def haloExp : FVec F S128x256 .f32 := exp (subf (haloScores q msk kh) (broadcastTo S128x256 (allMax q m₁ msk kh) broadcasts_S128x1_S128x256))

/-- the factor that rescales the own part; -/
def rescale : FVec F S128x1 .f32 := exp (subf m₁ (allMax q m₁ msk kh))

/-- and the merged mean. -/
def merge : FVec F S128x64 .f32 :=
  divf
    (addf (mulf acc₁ (broadcastTo S128x64 (rescale q m₁ msk kh) broadcasts_S128x1_S128x64))
      (matmul dot_S128x256_S256x64_S128x64_1_0_0_1_n_n none (haloExp q m₁ msk kh) vh (constant S128x64 .f32 0x00000000#32)))
    (broadcastTo S128x64
      (addf (mulf l₁ (rescale q m₁ msk kh))
        (shapeCast S128x1 (multiReduction .add [1] S128 (haloExp q m₁ msk kh) 0x00000000#32 reduces_S128x256_S128 (.inl rfl) rfl) shapeCasts_S128_S128x1))
      broadcasts_S128x1_S128x64)

end Merge

/-- A head: its own part, then the halo merged in. -/
def head (q : FVec F S128x64 .f32) (k v : FVec F S128x64 .bf16) (msk : IVec S128x256 1) (kh vh : FVec F S256x64 .f32) : FVec F S128x64 .f32 :=
  merge q (ownMax q k) (ownSum q k) (ownAcc q k v) msk kh vh

/-- The head at the slices `o`. -/
def headAt (o : Fin 4 → Nat) (h : S2x128x4x64.Slices o S1x128x1x64) (h' : S2x256x4x64.Slices o S1x256x1x64)
    (q : FVec F S2x128x4x64 .f32) (k v : FVec F S2x128x4x64 .bf16) (msk : IVec S128x256 1) (kh vh : FVec F S2x256x4x64 .f32) : FVec F S128x64 .f32 :=
  head (cut o q h) (cut o k h) (cut o v h) msk (cutHalo o kh h') (cutHalo o vh h')

/-- The four heads side by side, projected. -/
def project (c₀ c₁ c₂ c₃ : FVec F S128x64 .f32) (wo : FVec F S256x512 .bf16) : FVec F S1x128x512 .f32 :=
  shapeCast S1x128x512
    (matmul dot_S128x256_S256x512_S128x512_1_0_0_1_n_n none
      (concatenate S128x256 1 [⟨S128x64, c₀⟩, ⟨S128x64, c₁⟩, ⟨S128x64, c₂⟩, ⟨S128x64, c₃⟩] concatenates_S128x64_S128x64_S128x64_S128x64_S128x256_d1)
      wo (constant S128x512 .f32 0x00000000#32))
    shapeCasts_S128x512_S1x128x512

/-- The slices of every batch and head exist, among the own rows -/
theorem own_slices : ∀ (b : Fin 2) (h : Fin 4), S2x128x4x64.Slices ![↑b, 0, ↑h, 0] S1x128x1x64 := by decide

/-- and among the halo's. -/
theorem halo_slices : ∀ (b : Fin 2) (h : Fin 4), S2x256x4x64.Slices ![↑b, 0, ↑h, 0] S1x256x1x64 := by decide

section Batch

variable (b : Fin 2) (q : FVec F S2x128x4x64 .f32) (k v : FVec F S2x128x4x64 .bf16) (msk : IVec S128x256 1) (kh vh : FVec F S2x256x4x64 .f32)

/-- Head `h` of batch `b`. -/
def headOf (h : Fin 4) : FVec F S128x64 .f32 := headAt ![↑b, 0, ↑h, 0] (own_slices b h) (halo_slices b h) q k v msk kh vh

/-- Batch `b`'s rows: its four heads, projected. -/
def batch (wo : FVec F S256x512 .bf16) : FVec F S1x128x512 .f32 :=
  project (headOf b q k v msk kh vh 0) (headOf b q k v msk kh vh 1) (headOf b q k v msk kh vh 2) (headOf b q k v msk kh vh 3) wo

end Batch

section Rows

variable (i : BitVec 32) (x : Vec F S2x128x512 .bf16) (wq : Vec F S512x256 .bf16) (k v : Vec F S2x128x4x64 .bf16)
variable (wo : Vec F S256x512 .bf16) (kl kr vl vr : Vec F S1x2x128x4x64 .bf16)

/-- The body's first rows are batch 0's, -/
theorem row0_eq : row0 i x wq k v wo kl kr vl vr
    = batch 0 (k0_pay4 x wq) (k0_pay5 k) (k0_pay6 v) (k0_pay51 i) (k0_pay52 kl kr) (k0_pay53 vl vr) (k0_pay54 wo) := rfl

/-- its second ones batch 1's. -/
theorem row1_eq : row1 i x wq k v wo kl kr vl vr
    = batch 1 (k0_pay4 x wq) (k0_pay5 k) (k0_pay6 v) (k0_pay51 i) (k0_pay52 kl kr) (k0_pay53 vl vr) (k0_pay54 wo) := rfl

end Rows

end Cert.KernelIdeal.Ring

end
-- ==== Proof.Ideal.Softmax.lean ====
/-
# Softmax in two parts

Over the extended reals: the weighted mean that a softmax makes over all keys equals the one built from a first group of
keys, whose maximum, sum and weighted sum are rescaled when a second group is merged in, as long as every key outside the
two groups is masked by minus infinity.
-/
module

public import Idealize.ShloMosaic.PureOps.Ideal
public import Idealize.ShloMosaic.Lib.Pointwise

@[expose] public section

noncomputable section

namespace Cert.Softmax

open Idealize.ShloMosaic

variable {n a b : Nat}

/-- The greatest of finitely many scores, minus infinity if there is none. -/
def top (s : Fin n → EReal) : EReal := Finset.univ.fold max ⊥ s

/-- The mean of the values `v` weighted by the softmax of the scores `s`. -/
def whole (s v : Fin n → EReal) : EReal :=
  ∑ j, v j * Ideal.div (Ideal.exp (s j - top s)) (∑ k, Ideal.exp (s k - top s))

/-- The same mean over two groups of keys, the first group's sums rescaled to the common maximum. -/
def merged (s₁ v₁ : Fin a → EReal) (s₂ v₂ : Fin b → EReal) : EReal :=
  Ideal.div
    ((∑ j, Ideal.exp (s₁ j - top s₁) * v₁ j) * Ideal.exp (top s₁ - max (top s₁) (top s₂))
      + ∑ j, Ideal.exp (s₂ j - max (top s₁) (top s₂)) * v₂ j)
    ((∑ j, Ideal.exp (s₁ j - top s₁)) * Ideal.exp (top s₁ - max (top s₁) (top s₂))
      + ∑ j, Ideal.exp (s₂ j - max (top s₁) (top s₂)))

/-- The fold of the maximum is the supremum. -/
theorem top_eq_sup (s : Fin n → EReal) : top s = Finset.univ.sup s := rfl

/-- Every score is at most the greatest. -/
theorem le_top (s : Fin n → EReal) (j : Fin n) : s j ≤ top s := by
  rw [top_eq_sup]; exact Finset.le_sup (Finset.mem_univ j)

/-- The greatest is at most any bound of the scores. -/
theorem top_le (s : Fin n → EReal) (x : EReal) (h : ∀ j, s j ≤ x) : top s ≤ x := by
  rw [top_eq_sup]; exact Finset.sup_le fun j _ => h j

/-- Scores below infinity have their greatest below infinity. -/
theorem top_ne_top (s : Fin n → EReal) (h : ∀ j, s j ≠ ⊤) : top s ≠ ⊤ := by
  rw [top_eq_sup, ← lt_top_iff_ne_top, Finset.sup_lt_iff (by simp)]
  exact fun j _ => lt_top_iff_ne_top.2 (h j)

/-- A nonnegative real factor distributes over a finite sum of extended reals. -/
theorem sum_mul_coe {ι : Type} (t : Finset ι) (f : ι → EReal) (r : ℝ) (hr : 0 ≤ r) :
    (∑ j ∈ t, f j) * (r : EReal) = ∑ j ∈ t, f j * (r : EReal) := by
  classical
  induction t using Finset.induction_on with
  | empty => simp
  | insert x t hx ih =>
    rw [Finset.sum_insert hx, Finset.sum_insert hx,
      EReal.right_distrib_of_nonneg_of_ne_top (by exact_mod_cast hr) (EReal.coe_ne_top r), ih]

/-- A finite sum of reals is a real. -/
theorem sum_coe {ι : Type} (t : Finset ι) (f : ι → ℝ) : ∑ j ∈ t, (f j : EReal) = ((∑ j ∈ t, f j : ℝ) : EReal) := by
  classical
  induction t using Finset.induction_on with
  | empty => simp
  | insert x t hx ih => rw [Finset.sum_insert hx, Finset.sum_insert hx, ih, EReal.coe_add]

/-- The exponential of a score below a real is a nonnegative real. -/
theorem exp_sub_coe (x : EReal) (hx : x ≠ ⊤) (r : ℝ) : ∃ e : ℝ, 0 ≤ e ∧ Ideal.exp (x - r) = (e : EReal) := by
  induction x using EReal.rec with
  | bot => exact ⟨0, le_rfl, by rw [EReal.bot_sub]; rfl⟩
  | coe x => exact ⟨Real.exp (x - r), (Real.exp_pos _).le, by rw [← EReal.coe_sub]; rfl⟩
  | top => exact absurd rfl hx

/-- Rescaling an exponential from one real maximum to another. -/
theorem exp_rescale (x : EReal) (hx : x ≠ ⊤) (m M : ℝ) :
    Ideal.exp (x - m) * Ideal.exp ((m : EReal) - M) = Ideal.exp (x - M) := by
  induction x using EReal.rec with
  | bot => rw [EReal.bot_sub, EReal.bot_sub]; exact zero_mul _
  | coe x =>
    rw [← EReal.coe_sub, ← EReal.coe_sub, ← EReal.coe_sub]
    show ((Real.exp _ : ℝ) : EReal) * ((Real.exp _ : ℝ) : EReal) = ((Real.exp _ : ℝ) : EReal)
    rw [← EReal.coe_mul, ← Real.exp_add]; congr 2; ring
  | top => exact absurd rfl hx

/-- Two disjoint groups of keys, given by an injection, and everything else zero: the sum over all keys is the two sums. -/
theorem sum_groups (f : Fin a ⊕ Fin b → Fin n) (hf : Function.Injective f) (g : Fin n → EReal)
    (hg : ∀ j, (∀ i, f i ≠ j) → g j = 0) : ∑ j, g j = ∑ i, g (f (.inl i)) + ∑ i, g (f (.inr i)) := by
  rw [← Fintype.sum_sum_type fun i => g (f i)]
  exact (Fintype.sum_of_injective f hf _ g (fun j hj => hg j fun i hi => hj ⟨i, hi⟩) fun _ => rfl).symm

/-- The weighted mean over two groups, merged, is the one over all keys: the first group's scores are real, the second
    group's are real or masked, and every other key is masked. -/
theorem merged_eq (f : Fin a ⊕ Fin b → Fin n) (hf : Function.Injective f) (s v : Fin n → EReal) (ha : 0 < a)
    (h₁ : ∀ i, s (f (.inl i)) ≠ ⊥) (ht : ∀ j, s j ≠ ⊤) (h₀ : ∀ j, (∀ i, f i ≠ j) → s j = ⊥) :
    merged (fun i => s (f (.inl i))) (fun i => v (f (.inl i))) (fun i => s (f (.inr i))) (fun i => v (f (.inr i)))
      = whole s v := by
  set s₁ : Fin a → EReal := fun i => s (f (.inl i)) with hs₁
  set s₂ : Fin b → EReal := fun i => s (f (.inr i)) with hs₂
  have htop : max (top s₁) (top s₂) = top s := by
    refine le_antisymm (max_le (top_le _ _ fun i => le_top s _) (top_le _ _ fun i => le_top s _)) (top_le _ _ fun j => ?_)
    by_cases h : ∃ i, f i = j
    · obtain ⟨i | i, rfl⟩ := h
      · exact (le_top s₁ i).trans (le_max_left _ _)
      · exact (le_top s₂ i).trans (le_max_right _ _)
    · rw [h₀ j fun i hi => h ⟨i, hi⟩]; exact bot_le
  obtain ⟨m, hm⟩ : ∃ m : ℝ, top s₁ = (m : EReal) :=
    ⟨_, (EReal.coe_toReal (top_ne_top _ fun i => ht _)
      (fun h => h₁ ⟨0, ha⟩ (le_bot_iff.1 (h ▸ le_top s₁ ⟨0, ha⟩)))).symm⟩
  obtain ⟨M, hM⟩ : ∃ M : ℝ, top s = (M : EReal) :=
    ⟨_, (EReal.coe_toReal (top_ne_top _ ht)
      (fun h => h₁ ⟨0, ha⟩ (le_bot_iff.1 (h ▸ le_top s _)))).symm⟩
  choose e he0 he using fun j => exp_sub_coe (s j) (ht j) M
  have hmask : ∀ j, (∀ i, f i ≠ j) → e j = 0 := fun j hj => by
    have := he j
    rw [h₀ j hj, EReal.bot_sub] at this
    exact EReal.coe_injective (this.symm.trans (Ideal.exp_bot.trans EReal.coe_zero.symm))
  have hpos : 0 < e (f (.inl ⟨0, ha⟩)) := by
    refine lt_of_le_of_ne (he0 _) fun h0 => ?_
    have := he (f (.inl ⟨0, ha⟩))
    obtain ⟨x, hx⟩ : ∃ x : ℝ, s (f (.inl ⟨0, ha⟩)) = (x : EReal) := ⟨_, (EReal.coe_toReal (ht _) (h₁ _)).symm⟩
    rw [hx, ← EReal.coe_sub, ← h0] at this
    exact (Real.exp_pos (x - M)).ne' (EReal.coe_injective this)
  have hL : (0 : ℝ) < ∑ j, e j := Finset.sum_pos' (fun j _ => he0 j) ⟨_, Finset.mem_univ _, hpos⟩
  obtain ⟨c, hc0, hc⟩ := exp_sub_coe (m : EReal) (EReal.coe_ne_top m) M
  have hres : ∀ i, Ideal.exp (s₁ i - m) * (c : EReal) = (e (f (.inl i)) : EReal) := fun i => by
    rw [← hc, exp_rescale _ (ht _), he]
  -- the denominator
  have hden : (∑ i, Ideal.exp (s₁ i - m)) * (c : EReal) + ∑ i, Ideal.exp (s₂ i - M) = ((∑ j, e j : ℝ) : EReal) := by
    rw [sum_mul_coe _ _ _ hc0, Finset.sum_congr rfl fun i _ => hres i, Finset.sum_congr rfl fun i _ => he (f (.inr i)),
      ← sum_coe, sum_groups f hf (fun j => (e j : EReal)) fun j hj => by rw [hmask j hj]; rfl]
  -- the numerator
  have hnum : (∑ i, Ideal.exp (s₁ i - m) * v (f (.inl i))) * (c : EReal) + ∑ i, Ideal.exp (s₂ i - M) * v (f (.inr i))
      = ∑ j, (e j : EReal) * v j := by
    rw [sum_mul_coe _ _ _ hc0, sum_groups f hf (fun j => (e j : EReal) * v j) fun j hj => by
      rw [hmask j hj, EReal.coe_zero, zero_mul]]
    refine congrArg₂ (· + ·) (Finset.sum_congr rfl fun i _ => ?_) (Finset.sum_congr rfl fun i _ => ?_)
    · rw [mul_right_comm, hres]
    · rw [he]
  unfold merged whole
  rw [htop, hm, hM, hc, hden, hnum, Finset.sum_congr rfl fun j _ => he j, sum_coe, Ideal.div_coe hL.ne',
    sum_mul_coe _ _ _ (one_div_nonneg.2 hL.le)]
  refine Finset.sum_congr rfl fun j _ => ?_
  rw [he, Ideal.div_coe hL.ne', mul_comm _ (v j), mul_assoc]

/-- Infinite scores are excluded for a reason: one own key and one halo key with infinite scores and values 0 have the merged
    mean minus infinity and the whole mean 0. -/
theorem merged_ne_whole :
    merged (fun _ : Fin 1 => ⊤) (fun _ => 0) (fun _ : Fin 1 => ⊤) (fun _ => 0) ≠ whole (fun _ : Fin 2 => ⊤) (fun _ => 0) := by
  have e : Ideal.div 0 0 = ⊥ := by simp [Ideal.div]
  have h : merged (fun _ : Fin 1 => ⊤) (fun _ => 0) (fun _ : Fin 1 => ⊤) (fun _ => 0) = ⊥ := by
    have t : top (fun _ : Fin 1 => (⊤ : EReal)) = ⊤ := by rw [top_eq_sup]; simp
    have z : Ideal.exp (⊤ - ⊤) = 0 := by rw [show (⊤ : EReal) - ⊤ = ⊥ from rfl, Ideal.exp_bot]
    simp only [merged, t, max_self, z, mul_zero, Finset.sum_const_zero, add_zero]
    exact e
  have h' : whole (fun _ : Fin 2 => ⊤) (fun _ => 0) = 0 := by simp [whole]
  rw [h, h']
  exact EReal.bot_ne_zero

end Cert.Softmax

end
-- ==== Proof.Ideal.Read.lean ====
/-
# The head, the mask and the projection at an index
-/
module

public import proofs.«01_k».proof.Proof.Ideal.Head
public import proofs.«01_k».proof.Proof.Ideal.Softmax
public import Idealize.ShloMosaic.Lib.Pointwise
public import Idealize.ShloMosaic.Lib.IdealHost
public import Idealize.ShloMosaic.Lib.WordCmp

@[expose] public section

set_option maxRecDepth 16384

noncomputable section

namespace Cert.KernelIdeal.Ring

open Cert.KernelIdeal Cert.KernelIdeal.Gen
open Idealize.ShloMosaic Idealize.ShloMosaic.TcCoe
open Idealize.ShloMosaic.Pointwise

/-- The scale, one eighth. -/
def eighth : EReal := Ideal.ofBits .f32 0x3E000000#32

section Head

variable (q : FVec Ideal S128x64 .f32) (k v : FVec Ideal S128x64 .bf16) (msk : IVec S128x256 1) (kh vh : FVec Ideal S256x64 .f32)
variable (r : Fin 128)

/-- A query's scores against the own keys, at an index; -/
def ownAt : Fin 128 → EReal := fun j => (∑ e : Fin 64, q (ix2 r e) * k (ix2 j e)) * eighth

/-- and against the halo's keys. -/
def haloAt : Fin 256 → EReal := fun j =>
  if msk (ix2 r j) = 1#1 then (∑ e : Fin 64, q (ix2 r e) * kh (ix2 j e)) * eighth else ⊥

/-- The maximum's starting word is minus infinity. -/
theorem negInf : Ideal.ofBits .f32 0xFF800000#32 = ⊥ := by
  simp [Ideal.ofBits, Ideal.ieee]

/-- The own scores at an index. -/
theorem ownScores_apply (j : Fin 128) : ownScores q k (ix2 r j) = ownAt q k r j := by
  pointwise [ownScores, ownAt, eighth]

/-- The halo's scores at an index: the mask's constant is minus infinity. -/
theorem haloScores_apply (j : Fin 256) : haloScores q msk kh (ix2 r j) = haloAt q msk kh r j := by
  have e : (Named.named (F := Ideal) κ "mask" 0xCE6E6B28#32 : Ideal .f32) = (⊥ : EReal) := rfl
  pointwise [haloScores, haloAt, eighth]
  rw [e]; rfl

/-- The greatest own score. -/
theorem ownMax_apply (z : Fin 1) : ownMax q k (ix2 r z) = Softmax.top (ownAt q k r) := by
  pointwise [ownMax, Softmax.top]
  rw [negInf]; simp only [ownScores_apply]

/-- The own exponentials. -/
theorem ownExp_apply (j : Fin 128) : ownExp q k (ix2 r j) = Ideal.exp (ownAt q k r j - Softmax.top (ownAt q k r)) := by
  pointwise [ownExp]
  rw [ownScores_apply, ownMax_apply]

/-- Their sum. -/
theorem ownSum_apply (z : Fin 1) : ownSum q k (ix2 r z) = ∑ j, Ideal.exp (ownAt q k r j - Softmax.top (ownAt q k r)) := by
  pointwise [ownSum]
  simp only [ownExp_apply]

/-- The values weighted by them. -/
theorem ownAcc_apply (d : Fin 64) :
    ownAcc q k v (ix2 r d) = ∑ j, Ideal.exp (ownAt q k r j - Softmax.top (ownAt q k r)) * v (ix2 j d) := by
  pointwise [ownAcc]
  simp only [ownExp_apply]

/-- The maximum of any column of maxima with the halo's. -/
theorem allMax_apply (m₁ : FVec Ideal S128x1 .f32) (z : Fin 1) :
    allMax q m₁ msk kh (ix2 r z) = max (m₁ (ix2 r z)) (Softmax.top (haloAt q msk kh r)) := by
  pointwise [allMax, Softmax.top]
  rw [negInf]; simp only [haloScores_apply]

/-- The halo's exponentials. -/
theorem haloExp_apply (m₁ : FVec Ideal S128x1 .f32) (j : Fin 256) :
    haloExp q m₁ msk kh (ix2 r j)
      = Ideal.exp (haloAt q msk kh r j - max (m₁ (ix2 r 0)) (Softmax.top (haloAt q msk kh r))) := by
  pointwise [haloExp]
  rw [haloScores_apply, allMax_apply]

/-- The factor of the own part. -/
theorem rescale_apply (m₁ : FVec Ideal S128x1 .f32) (z : Fin 1) :
    rescale q m₁ msk kh (ix2 r z) = Ideal.exp (m₁ (ix2 r z) - max (m₁ (ix2 r z)) (Softmax.top (haloAt q msk kh r))) := by
  pointwise [rescale]
  rw [allMax_apply]

/-- A head at an index is the merged softmax mean of the values. -/
theorem head_apply (d : Fin 64) : head q k v msk kh vh (ix2 r d)
    = Softmax.merged (ownAt q k r) (fun j => v (ix2 j d)) (haloAt q msk kh r) (fun j => vh (ix2 j d)) := by
  pointwise [head, merge, Softmax.merged]
  simp only [ownMax_apply, ownSum_apply, ownAcc_apply, rescale_apply, haloExp_apply]

end Head

/-- The cut at an index; -/
theorem cut_apply {φ : FTy} (b : Fin 2) (h : Fin 4) (o : Fin 4 → Nat) (ho : o = ![↑b, 0, ↑h, 0]) (x : FVec Ideal S2x128x4x64 φ)
    (hh : S2x128x4x64.Slices o S1x128x1x64) (r : Fin 128) (e : Fin 64) : cut o x hh (ix2 r e) = x (ix4 b r h e) := by
  subst ho
  pointwise [cut]
/-- the halo's cut; -/
theorem cutHalo_apply {φ : FTy} (b : Fin 2) (h : Fin 4) (o : Fin 4 → Nat) (ho : o = ![↑b, 0, ↑h, 0]) (x : FVec Ideal S2x256x4x64 φ)
    (hh : S2x256x4x64.Slices o S1x256x1x64) (r : Fin 256) (e : Fin 64) : cutHalo o x hh (ix2 r e) = x (ix4 b r h e) := by
  subst ho
  pointwise [cutHalo]

/-- the queries; -/
theorem query_apply (x : Vec Ideal S2x128x512 .bf16) (wq : Vec Ideal S512x256 .bf16) (b : Fin 2) (r : Fin 128) (h : Fin 4) (e : Fin 64) :
    k0_pay4 x wq (ix4 b r h e) = ∑ t : Fin 512, x (ix3 b r t) * wq (ix2 t ⟨↑h * 64 + ↑e, by omega⟩) := by
  pointwise [k0_pay4]

/-- the keys; -/
theorem key_apply (k : Vec Ideal S2x128x4x64 .bf16) : k0_pay5 k = k := by
  funext j
  pointwise [k0_pay5]
/-- the values; -/
theorem val_apply (k : Vec Ideal S2x128x4x64 .bf16) : k0_pay6 k = k := by
  funext j
  pointwise [k0_pay6]
/-- the halo, the left neighbour's rows and then the right one's; -/
theorem halo_apply (k k' : Vec Ideal S2x128x4x64 .bf16) (b : Fin 2) (r : Fin 256) (h : Fin 4) (e : Fin 64) :
    k0_pay52 (k0_pay2 k) (k0_pay2 k') (ix4 b r h e) = if hr : r.val < 128 then k (ix4 b ⟨r, hr⟩ h e) else k' (ix4 b ⟨r - 128, by omega⟩ h e) := by
  pointwise [k0_pay52, k0_pay2]

/-- likewise of the values; -/
theorem haloVal_apply (v v' : Vec Ideal S2x128x4x64 .bf16) (b : Fin 2) (r : Fin 256) (h : Fin 4) (e : Fin 64) :
    k0_pay53 (k0_pay3 v) (k0_pay3 v') (ix4 b r h e) = if hr : r.val < 128 then v (ix4 b ⟨r, hr⟩ h e) else v' (ix4 b ⟨r - 128, by omega⟩ h e) := by
  pointwise [k0_pay53, k0_pay3]

/-- the output weights. -/
theorem wo_apply (k : Vec Ideal S256x512 .bf16) : k0_pay54 k = k := by
  funext j
  pointwise [k0_pay54]

/-- A sum over the 256 columns, head by head. -/
theorem sum_heads (f : Fin 256 → EReal) : ∑ x, f x = ∑ h : Fin 4, ∑ d : Fin 64, f ⟨↑h * 64 + ↑d, by omega⟩ := by
  rw [← Fintype.sum_prod_type' (f := fun (h : Fin 4) (d : Fin 64) => f ⟨↑h * 64 + ↑d, by omega⟩)]
  refine (Fintype.sum_equiv (finProdFinEquiv (m := 4) (n := 64)) _ _ fun p => ?_).symm
  congr 1
  exact Fin.ext (by simp [finProdFinEquiv]; omega)

/-- The projection at an index: the sum over heads and their columns. -/
theorem project_apply (g : Fin 4 → FVec Ideal S128x64 .f32) (wo : FVec Ideal S256x512 .bf16) (z : Fin 1) (r : Fin 128) (o : Fin 512) :
    project (g 0) (g 1) (g 2) (g 3) wo (ix3 z r o) = ∑ h : Fin 4, ∑ d : Fin 64, g h (ix2 r d) * wo (ix2 ⟨↑h * 64 + ↑d, by omega⟩ o) := by
  pointwise [project]
  rw [sum_heads]
  refine Finset.sum_congr rfl fun h _ => Finset.sum_congr rfl fun d _ => ?_
  congr 1
  have hd := d.isLt
  fin_cases h
  all_goals
    dsimp only
    repeat rw [dif_neg (by omega)]
    try rw [dif_pos (by omega)]
    refine congrArg _ (congrArg (ix2 r) (Fin.ext ?_))
    dsimp only
    omega

/-- The mask at an index: the left half from the diagonal up, unless on device 0; the right half up to it, unless on device 31. -/
theorem mask_apply (i : BitVec 32) (r : Fin 128) (j : Fin 256) : k0_pay51 i (ix2 r j) = 1#1 ↔
    (if j.val < 128 then r.val ≤ j.val ∧ i ≠ 0#32 else j.val ≤ r.val + 128 ∧ i ≠ 31#32) := by
  have hr := r.isLt
  have hj := j.isLt
  have and_one : ∀ a b : BitVec 1, IntOp.andi a b = 1#1 ↔ a = 1#1 ∧ b = 1#1 := by decide
  have ne_one : ∀ w : BitVec 32, Scalar.cmpi .ne i w = 1#1 ↔ i ≠ w := fun w => by
    rw [Scalar.cmpi, IntOp.cmpi]; by_cases h : i = w
    · simp [h]
    · simp [h, bne_iff_ne.2 h]
  pointwise [k0_pay51]
  split_ifs
  · rw [and_one, ne_one]
    refine and_congr_left fun _ => ?_
    exact WordCmp.cmpi_sle_ofNat_eq_one_iff (by omega) (by omega)
  · rw [and_one, ne_one]
    refine and_congr_left fun _ => ?_
    rw [WordCmp.cmpi_sge_ofNat (by omega) (by omega), WordCmp.ofBool_decide_eq_one_iff]
    omega

/-- The device's number, as the body computes it, is 0 on device 0 only, -/
theorem devWord_zero (c : Dev nD) : devWord c ≠ 0#32 ↔ c ≠ 0 := by revert c; decide

/-- and 31 on device 31 only. -/
theorem devWord_last (c : Dev nD) : devWord c ≠ 31#32 ↔ c ≠ 31 := by revert c; decide

end Cert.KernelIdeal.Ring

end
-- ==== Proof.Ref.Terms.lean ====
/-
# The reference, piece by piece

The reference's composed term repeats its scores at each use. Here each piece is named once and read at an index.
-/
module

public import proofs.«01_k».proof.Proof.Gen.ReferenceIdeal.Run
public import proofs.«01_k».proof.Proof.Ideal.Softmax
public import Idealize.ShloMosaic.Lib.Pointwise
public import Idealize.ShloMosaic.Lib.IdealHost
public import Idealize.ShloMosaic.Lib.WordCmp
public import Idealize.ShloMosaic.Lib.Routing.OpsOrder

@[expose] public section

set_option maxRecDepth 16384

noncomputable section

namespace Cert.ReferenceIdeal.Terms

open Cert.ReferenceIdeal Cert.ReferenceIdeal.Gen
open Idealize.ShloMosaic Idealize.ShloMosaic.TcCoe
open Idealize.ShloMosaic.Pointwise

variable (x : FVec Ideal S2x4096x512 .bf16) (wq : FVec Ideal S512x256 .bf16) (k v : FVec Ideal S2x4096x4x64 .bf16)
variable (wo : FVec Ideal S256x512 .bf16)

/-- The window: a query and a key at most 128 apart. -/
def window : IVec S4096x4096 1 :=
  cmpi .sle (absi (subi (broadcastInDim S4096x4096 ![0, 1] bcast_S4096x1_S4096x4096_0_1 (broadcastInDim S4096x1 ![0] bcast_S4096_S4096x1_0 (iotaInDim S4096 32 0)))
    (broadcastInDim S4096x4096 ![0, 1] bcast_S1x4096_S4096x4096_0_1 (broadcastInDim S1x4096 ![1] bcast_S4096_S1x4096_1 (iotaInDim S4096 32 0)))))
    (broadcastInDim S4096x4096 ![] bcast_S_S4096x4096 (constantI S_ 32 128#32))

/-- Whether a query has a key in its window. -/
def keep : IVec S4096 1 := Host.reduce IntOp.ori window (constantI S_ 1 0#1) reducesTo_S4096x4096_S4096_d1 h_S_

/-- The queries. -/
def queries : FVec Ideal S2x4096x4x64 .f32 :=
  shapeCast _ (extf .f32 (truncf .bf16 (Host.dotGeneral dot_S2x4096x512_S512x256_S2x4096x256_2_0_01_1_n_n none
    (extf .f32 x bitsLt_bf16_f32) (extf .f32 wq bitsLt_bf16_f32)) bitsLt_bf16_f32) bitsLt_bf16_f32) shapeCasts_S2x4096x256_S2x4096x4x64

/-- The masked scores. -/
def scores : FVec Ideal S2x4x4096x4096 .f32 :=
  select (broadcastInDim S2x4x4096x4096 ![0, 1, 2, 3] bcast_S1x1x4096x4096_S2x4x4096x4096_0_1_2_3 (broadcastInDim S1x1x4096x4096 ![2, 3] bcast_S4096x4096_S1x1x4096x4096_2_3 window))
    (mulf (extf .f32 (truncf .bf16 (Host.dotGeneral dot_S2x4096x4x64_S2x4096x4x64_S2x4x4096x4096_3_3_1_1_02_02 none
      (queries x wq) (extf .f32 k bitsLt_bf16_f32)) bitsLt_bf16_f32) bitsLt_bf16_f32) (broadcastInDim S2x4x4096x4096 ![] bcast_S_S2x4x4096x4096 (constant S_ .f32 0x3E000000#32)))
    (broadcastInDim S2x4x4096x4096 ![] bcast_S_S2x4x4096x4096 (id (constant S_ .f32 0xFF800000#32)))

/-- Each query's greatest score. -/
def greatest : FVec Ideal S2x4x4096 .f32 :=
  Host.reduce FloatOps.maximumf (scores x wq k) (constant S_ .f32 0xFF800000#32) reducesTo_S2x4x4096x4096_S2x4x4096_d3 h_S_

/-- The exponentials. -/
def expo : FVec Ideal S2x4x4096x4096 .f32 :=
  Host.exp (subf (scores x wq k) (broadcastInDim S2x4x4096x4096 ![0, 1, 2, 3] bcast_S2x4x4096x1_S2x4x4096x4096_0_1_2_3
    (broadcastInDim S2x4x4096x1 ![0, 1, 2] bcast_S2x4x4096_S2x4x4096x1_0_1_2 (greatest x wq k))))

/-- Their sums. -/
def total : FVec Ideal S2x4x4096x1 .f32 :=
  select (broadcastInDim S2x4x4096x1 ![0, 1, 2, 3] bcast_S1x1x4096x1_S2x4x4096x1_0_1_2_3 (broadcastInDim S1x1x4096x1 ![2] bcast_S4096_S1x1x4096x1_2 keep))
    (broadcastInDim S2x4x4096x1 ![0, 1, 2] bcast_S2x4x4096_S2x4x4096x1_0_1_2
      (Host.reduceAdd (expo x wq k) (constant S_ .f32 0x00000000#32) reducesTo_S2x4x4096x4096_S2x4x4096_d3 h_S_))
    (broadcastInDim S2x4x4096x1 ![] bcast_S_S2x4x4096x1 (id (constant S_ .f32 0x3F800000#32)))

/-- The weights. -/
def weights : FVec Ideal S2x4x4096x4096 .f32 :=
  select (broadcastInDim S2x4x4096x4096 ![0, 1, 2, 3] bcast_S1x1x4096x1_S2x4x4096x4096_0_1_2_3 (broadcastInDim S1x1x4096x1 ![2] bcast_S4096_S1x1x4096x1_2 keep))
    (Host.divf (expo x wq k) (broadcastInDim S2x4x4096x4096 ![0, 1, 2, 3] bcast_S2x4x4096x1_S2x4x4096x4096_0_1_2_3 (total x wq k)))
    (broadcastInDim S2x4x4096x4096 ![] bcast_S_S2x4x4096x4096 (id (constant S_ .f32 0x00000000#32)))

/-- The means of the values. -/
def context : FVec Ideal S2x4x64x4096 .f32 :=
  Host.dotGeneral dot_S2x4096x4x64_S2x4x4096x4096_S2x4x64x4096_1_3_3_2_02_01 none (extf .f32 v bitsLt_bf16_f32) (weights x wq k)

/-- The result. -/
def out : FVec Ideal S2x4096x512 .f32 :=
  Host.dotGeneral dot_S2x4096x256_S256x512_S2x4096x512_2_0_01_1_n_n none
    (shapeCast S2x4096x256 (transpose S2x4096x4x64 [0, 3, 1, 2] (context x wq k v) transposes_S2x4x64x4096_S2x4096x4x64_0_3_1_2) shapeCasts_S2x4096x4x64_S2x4096x256)
    (extf .f32 wo bitsLt_bf16_f32)

/-- The reference's result is `out` of its arguments. -/
theorem result_eq (m : (ℓ : Loc nD τ sig) → Buf (Elt Ideal) ℓ) (c : Dev nD) : Value.res_main_v43 m c
    = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

/-- The masked scores' word is minus infinity. -/
theorem negInf : Ideal.ofBits .f32 0xFF800000#32 = ⊥ := by
  simp [Ideal.ofBits, Ideal.ieee]

/-- The absolute difference of two small numbers, as words. -/
theorem absi_sub (q j : Nat) (hq : q < 4096) (hj : j < 4096) :
    IntOp.absi (IntOp.subi (BitVec.ofNat 32 q) (BitVec.ofNat 32 j)) = BitVec.ofNat 32 ((q - j) + (j - q)) := by
  unfold IntOp.absi IntOp.subi
  apply BitVec.eq_of_toNat_eq
  rw [BitVec.msb_eq_decide]
  split_ifs with hc <;> simp at hc <;> simp <;> omega

/-- The window at an index. -/
theorem window_apply (q j : Fin 4096) : window (ix2 q j) = 1#1 ↔ (q.val ≤ j.val + 128 ∧ j.val ≤ q.val + 128) := by
  have hq := q.isLt
  have hj := j.isLt
  pointwise [window]
  rw [absi_sub q j hq hj, WordCmp.cmpi_sle_ofNat_eq_one_iff (by omega) (by omega)]
  omega

/-- Every query keeps its own position, -/
theorem keep_apply (q : Fin 4096) : keep (ix1 q) = 1#1 := by
  pointwise [keep]
  rw [Routing.fold_ori]
  exact ⟨q, Finset.mem_univ q, (window_apply q q).2 ⟨by omega, by omega⟩⟩

/-- The queries at an index. -/
theorem queries_apply (b : Fin 2) (q : Fin 4096) (h : Fin 4) (e : Fin 64) :
    queries x wq (ix4 b q h e) = ∑ t : Fin 512, x (ix3 b q t) * wq (ix2 t ⟨↑h * 64 + ↑e, by omega⟩) := by
  pointwise [queries]

/-- A query's masked scores. -/
def scoresAt (b : Fin 2) (h : Fin 4) (q : Fin 4096) : Fin 4096 → EReal := fun j =>
  if q.val ≤ j.val + 128 ∧ j.val ≤ q.val + 128 then (∑ e : Fin 64, queries x wq (ix4 b q h e) * k (ix4 b j h e)) * Ideal.ofBits .f32 0x3E000000#32 else ⊥

/-- The scores at an index. -/
theorem scores_apply (b : Fin 2) (h : Fin 4) (q j : Fin 4096) : scores x wq k (ix4 b h q j) = scoresAt x wq k b h q j := by
  pointwise [scores]
  unfold scoresAt
  rw [Scalar.select]
  refine if_congr (window_apply q j) rfl ?_
  exact negInf

/-- A query's greatest score. -/
theorem greatest_apply (b : Fin 2) (h : Fin 4) (q : Fin 4096) : greatest x wq k (ix3 b h q) = Softmax.top (scoresAt x wq k b h q) := by
  pointwise [greatest, Softmax.top]
  rw [negInf]; simp only [scores_apply]

/-- The exponentials at an index. -/
theorem expo_apply (b : Fin 2) (h : Fin 4) (q j : Fin 4096) :
    expo x wq k (ix4 b h q j) = Ideal.exp (scoresAt x wq k b h q j - Softmax.top (scoresAt x wq k b h q)) := by
  pointwise [expo]
  rw [scores_apply, greatest_apply]

/-- A query's sum. -/
theorem total_apply (b : Fin 2) (h : Fin 4) (q : Fin 4096) (z : Fin 1) :
    total x wq k (ix4 b h q z) = ∑ j, Ideal.exp (scoresAt x wq k b h q j - Softmax.top (scoresAt x wq k b h q)) := by
  pointwise [total]
  rw [Scalar.select, if_pos (show keep (ix1 q) = 1 from keep_apply q)]
  simp only [expo_apply]

/-- Broadcasting a query's bit over heads and keys; -/
theorem keep_bcast (kp : IVec S4096 1) (b : Fin 2) (h : Fin 4) (q j : Fin 4096) :
    broadcastInDim S2x4x4096x4096 ![0, 1, 2, 3] bcast_S1x1x4096x1_S2x4x4096x4096_0_1_2_3 (broadcastInDim S1x1x4096x1 ![2] bcast_S4096_S1x1x4096x1_2 kp) (ix4 b h q j)
      = kp (ix1 q) := by
  pointwise []

/-- dividing by a query's sum; -/
theorem div_bcast (E : FVec Ideal S2x4x4096x4096 .f32) (T : FVec Ideal S2x4x4096x1 .f32) (b : Fin 2) (h : Fin 4) (q j : Fin 4096) :
    Host.divf E (broadcastInDim S2x4x4096x4096 ![0, 1, 2, 3] bcast_S2x4x4096x1_S2x4x4096x4096_0_1_2_3 T) (ix4 b h q j)
      = Ideal.div (E (ix4 b h q j)) (T (ix4 b h q 0)) := by
  pointwise []

/-- and a choice where the bit is set. -/
theorem select_set (kp : IVec S2x4x4096x4096 1) (X Y : FVec Ideal S2x4x4096x4096 .f32) (i : S2x4x4096x4096.Idx) (hk : kp i = 1#1) :
    select kp X Y i = X i := if_pos hk

/-- The weights at an index. -/
theorem weights_apply (b : Fin 2) (h : Fin 4) (q j : Fin 4096) :
    weights x wq k (ix4 b h q j) = Ideal.div (Ideal.exp (scoresAt x wq k b h q j - Softmax.top (scoresAt x wq k b h q)))
      (∑ j, Ideal.exp (scoresAt x wq k b h q j - Softmax.top (scoresAt x wq k b h q))) := by
  rw [← expo_apply, ← total_apply x wq k b h q 0]
  exact (select_set _ _ _ _ ((keep_bcast keep b h q j).trans (keep_apply q))).trans (div_bcast _ _ b h q j)

/-- The means at an index. -/
theorem context_apply (b : Fin 2) (h : Fin 4) (q : Fin 4096) (d : Fin 64) :
    context x wq k v (ix4 b h d q) = Softmax.whole (scoresAt x wq k b h q) (fun j => v (ix4 b j h d)) := by
  unfold context
  have hw := weights_apply x wq k b h q
  revert hw
  generalize weights x wq k = W
  intro hw
  pointwise [Softmax.whole]
  simp only [hw]

/-- A sum over the 256 columns, head by head. -/
theorem sum_heads (f : Fin 256 → EReal) : ∑ x, f x = ∑ h : Fin 4, ∑ d : Fin 64, f ⟨↑h * 64 + ↑d, by omega⟩ := by
  rw [← Fintype.sum_prod_type' (f := fun (h : Fin 4) (d : Fin 64) => f ⟨↑h * 64 + ↑d, by omega⟩)]
  refine (Fintype.sum_equiv (finProdFinEquiv (m := 4) (n := 64)) _ _ fun p => ?_).symm
  congr 1
  exact Fin.ext (by simp [finProdFinEquiv]; omega)

/-- The result at an index: the sum over heads and their columns of the softmax means times the output weights. -/
theorem out_apply (b : Fin 2) (q : Fin 4096) (o : Fin 512) : out x wq k v wo (ix3 b q o)
    = ∑ h : Fin 4, ∑ d : Fin 64, Softmax.whole (scoresAt x wq k b h q) (fun j => v (ix4 b j h d)) * wo (ix2 ⟨↑h * 64 + ↑d, by omega⟩ o) := by
  unfold out
  have hc := context_apply x wq k v b
  revert hc
  generalize context x wq k v = C
  intro hc
  pointwise []
  rw [sum_heads]
  refine Finset.sum_congr rfl fun h _ => Finset.sum_congr rfl fun d _ => ?_
  rw [← hc]
  have e₁ : (⟨(h.val * 64 + d.val) / 64, by omega⟩ : Fin 4) = h := Fin.ext (by dsimp only; omega)
  have e₂ : (⟨(h.val * 64 + d.val) % 64, by omega⟩ : Fin 64) = d := Fin.ext (by dsimp only; omega)
  rw [e₁, e₂]

end Cert.ReferenceIdeal.Terms

end
-- ==== Proof.Ideal.Value.lean ====
/-
# A head is the reference's softmax mean

On device `c` a query sees its own 128 keys and, masked, the 128 of each neighbour. These are distinct positions of the whole
sequence, and every other position is outside the query's window.
-/
module

public import proofs.«01_k».proof.Proof.Ideal.Read
public import proofs.«01_k».proof.Proof.Ref.Terms

@[expose] public section

set_option maxRecDepth 16384

noncomputable section

namespace Cert.KernelIdeal.Ring

open Cert.KernelIdeal Cert.KernelIdeal.Gen
open Idealize.ShloMosaic Idealize.ShloMosaic.TcCoe
open Idealize.ShloMosaic.Pointwise
open Cert.ReferenceIdeal.Terms (scoresAt queries)

/-- Row `r` of device `c`'s block, as a position of the whole sequence. -/
def pos (c : Dev nD) (r : Fin 128) : Fin 4096 := ⟨c.val * 128 + r.val, by have := c.isLt; have : nD = 32 := rfl; omega⟩

/-- The positions of the keys that device `c` reads: its own, then the left neighbour's, then the right one's. -/
def seen (c : Dev nD) : Fin 128 ⊕ Fin 256 → Fin 4096
  | .inl j => pos c j
  | .inr j => if hj : j.val < 128 then pos (tgt true c) ⟨j, hj⟩ else pos (tgt false c) ⟨j - 128, by omega⟩

/-- The number of a position; -/
theorem pos_val (c : Dev nD) (r : Fin 128) : (pos c r).val = c.val * 128 + r.val := rfl

/-- of an own key; -/
theorem seen_inl_val (c : Dev nD) (j : Fin 128) : (seen c (.inl j)).val = c.val * 128 + j.val := rfl

/-- of a halo key. -/
theorem seen_inr_val (c : Dev nD) (j : Fin 256) :
    (seen c (.inr j)).val = if j.val < 128 then (c.val + 31) % 32 * 128 + j.val else (c.val + 1) % 32 * 128 + (j.val - 128) := by
  by_cases hj : j.val < 128 <;> simp [seen, hj, pos, tgt]

/-- The keys read are distinct positions. -/
theorem seen_injective (c : Dev nD) : Function.Injective (seen c) := by
  have hc : c.val < 32 := c.isLt
  rintro (i | i) (j | j) e
  all_goals
    have hi := i.isLt
    have hj := j.isLt
    have e' := congrArg Fin.val e
    simp only [seen_inr_val, seen_inl_val] at e'
  · exact congrArg _ (Fin.ext (by omega))
  · exfalso; split_ifs at e' <;> omega
  · exfalso; split_ifs at e' <;> omega
  · refine congrArg _ (Fin.ext ?_); split_ifs at e' <;> omega

/-- A position that is not read is outside the window. -/
theorem not_seen (c : Dev nD) (r : Fin 128) (j : Fin 4096) (h : ∀ i, seen c i ≠ j) :
    ¬((pos c r).val ≤ j.val + 128 ∧ j.val ≤ (pos c r).val + 128) := by
  have hc : c.val < 32 := c.isLt
  have hr := r.isLt
  have hj := j.isLt
  rintro ⟨h₁, h₂⟩
  rw [pos_val] at h₁ h₂
  by_cases o : j.val / 128 = c.val
  · exact h (.inl ⟨j.val % 128, by omega⟩) (Fin.ext (by simp only [seen, pos_val]; omega))
  · by_cases l : j.val < c.val * 128
    · refine h (.inr ⟨j.val % 128, by omega⟩) (Fin.ext ?_)
      rw [seen_inr_val, if_pos (by dsimp only; omega)]; dsimp only; omega
    · refine h (.inr ⟨j.val % 128 + 128, by omega⟩) (Fin.ext ?_)
      rw [seen_inr_val, if_neg (by dsimp only; omega)]; dsimp only; omega

/-- A query's own block lies in its window; -/
theorem own_window (c : Dev nD) (r j : Fin 128) :
    (pos c r).val ≤ (seen c (.inl j)).val + 128 ∧ (seen c (.inl j)).val ≤ (pos c r).val + 128 := by
  have hr := r.isLt
  have hj := j.isLt
  simp only [seen, pos_val]; omega

/-- and the mask is the window on the halo. -/
theorem mask_window (c : Dev nD) (r : Fin 128) (j : Fin 256) : k0_pay51 (devWord c) (ix2 r j) = 1#1 ↔
    ((pos c r).val ≤ (seen c (.inr j)).val + 128 ∧ (seen c (.inr j)).val ≤ (pos c r).val + 128) := by
  have hc : c.val < 32 := c.isLt
  have hr := r.isLt
  have hj := j.isLt
  have h0 : c ≠ 0 ↔ c.val ≠ 0 := not_congr Fin.ext_iff
  have h31 : c ≠ 31 ↔ c.val ≠ 31 := not_congr Fin.ext_iff
  rw [mask_apply, devWord_zero, devWord_last, h0, h31, seen_inr_val, pos_val]
  split_ifs <;> omega

/-! ## Finite scores -/

/-- An extended real that is a real. -/
def IsReal (x : EReal) : Prop := ∃ r : ℝ, x = (r : EReal)

/-- A product of reals is a real; -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- so is a sum; -/
theorem IsReal.sum {n : Nat} {f : Fin n → EReal} (hf : ∀ i, IsReal (f i)) : IsReal (∑ i, f i) := by
  choose g hg using hf
  exact ⟨∑ i, g i, by rw [← Softmax.sum_coe]; exact Finset.sum_congr rfl fun i _ => hg i⟩

/-- and so is the scale. -/
theorem eighth_real : IsReal (Ideal.ofBits .f32 0x3E000000#32) := by
  simp only [Ideal.ofBits, Ideal.ieee, IsReal]
  simp
  exact ⟨_, (EReal.coe_mul _ _).symm⟩

section Scores

variable (X : FVec Ideal Cert.ReferenceIdeal.S2x4096x512 .bf16) (W : FVec Ideal S512x256 .bf16) (K V : FVec Ideal Cert.ReferenceIdeal.S2x4096x4x64 .bf16)
variable (hX : ∀ i, IsReal (X i)) (hW : ∀ i, IsReal (W i)) (hK : ∀ i, IsReal (K i))

include hX hW hK in
/-- Finite inputs make every score in the window a real. -/
theorem score_real (b : Fin 2) (h : Fin 4) (q j : Fin 4096) :
    IsReal ((∑ e : Fin 64, queries X W (ix4 b q h e) * K (ix4 b j h e)) * Ideal.ofBits .f32 0x3E000000#32) := by
  refine (IsReal.sum fun e => IsReal.mul ?_ (hK _)).mul eighth_real
  rw [Cert.ReferenceIdeal.Terms.queries_apply]
  exact IsReal.sum fun t => (hX _).mul (hW _)

variable (x : Dev nD → Vec Ideal S2x128x512 .bf16) (k v : Dev nD → Vec Ideal S2x128x4x64 .bf16)
variable (hx : ∀ c b r t, x c (ix3 b r t) = X (ix3 b (pos c r) t))
variable (hk : ∀ c b r h e, k c (ix4 b r h e) = K (ix4 b (pos c r) h e)) (hv : ∀ c b r h e, v c (ix4 b r h e) = V (ix4 b (pos c r) h e))

include hX hW hK hx hk hv in
/-- On every device, batch, head, row and column, the head is the softmax mean of the values over the whole sequence. -/
theorem head_eq (c : Dev nD) (b : Fin 2) (h : Fin 4) (r : Fin 128) (d : Fin 64) :
    headOf b (k0_pay4 (x c) W) (k0_pay5 (k c)) (k0_pay6 (v c)) (k0_pay51 (devWord c))
        (k0_pay52 (k0_pay2 (k (tgt true c))) (k0_pay2 (k (tgt false c)))) (k0_pay53 (k0_pay3 (v (tgt true c))) (k0_pay3 (v (tgt false c)))) h (ix2 r d)
      = Softmax.whole (scoresAt X W K b h (pos c r)) (fun j => V (ix4 b j h d)) := by
  have hq : ∀ e, k0_pay4 (x c) W (ix4 b r h e) = queries X W (ix4 b (pos c r) h e) := fun e => by
    rw [query_apply, Cert.ReferenceIdeal.Terms.queries_apply]; simp only [hx]
  have hkh : ∀ (j : Fin 256) e, k0_pay52 (k0_pay2 (k (tgt true c))) (k0_pay2 (k (tgt false c))) (ix4 b j h e) = K (ix4 b (seen c (.inr j)) h e) := fun j e => by
    rw [halo_apply]; simp only [hk, seen]; split_ifs <;> rfl
  have hvh : ∀ (j : Fin 256), k0_pay53 (k0_pay3 (v (tgt true c))) (k0_pay3 (v (tgt false c))) (ix4 b j h d) = V (ix4 b (seen c (.inr j)) h d) := fun j => by
    rw [haloVal_apply]; simp only [hv, seen]; split_ifs <;> rfl
  unfold headOf headAt
  rw [head_apply]
  refine Eq.trans ?_ (Softmax.merged_eq (seen c) (seen_injective c) (scoresAt X W K b h (pos c r)) (fun j => V (ix4 b j h d)) (by decide) ?_ ?_ ?_)
  · congr 1
    · funext j
      simp only [Function.comp_apply, ownAt, scoresAt, eighth]
      rw [if_pos (own_window c r j)]
      simp only [cut_apply b h _ rfl, hq, key_apply, hk, seen]
    · funext j
      simp only [Function.comp_apply, cut_apply b h _ rfl, val_apply, hv, seen]
    · funext j
      simp only [Function.comp_apply, haloAt, scoresAt, eighth]
      refine if_congr (mask_window c r j) ?_ rfl
      simp only [cut_apply b h _ rfl, cutHalo_apply b h _ rfl, hq, hkh]
    · funext j
      simp only [Function.comp_apply, cutHalo_apply b h _ rfl, hvh]
  · intro i
    simp only [scoresAt]
    rw [if_pos (own_window c r i)]
    obtain ⟨a, ha⟩ := score_real X W K hX hW hK b h (pos c r) (seen c (.inl i))
    rw [ha]; exact EReal.coe_ne_bot a
  · intro j
    simp only [scoresAt]
    split_ifs
    · obtain ⟨a, ha⟩ := score_real X W K hX hW hK b h (pos c r) j
      rw [ha]; exact EReal.coe_ne_top a
    · exact bot_ne_top
  · intro j hj
    exact if_neg (not_seen c r j hj)

end Scores

end Cert.KernelIdeal.Ring

end
-- ==== Proof.Finite.lean ====
/-
# The precondition, read

The predicate bounds the absolute values of three arguments below infinity; at the ideal model that makes them reals.
-/
module

public import proofs.«01_k».proof.Defs
public import proofs.«01_k».proof.Proof.Ideal.Value
public import Idealize.ShloMosaic.Lib.ReduceAll

@[expose] public section

set_option maxRecDepth 16384

noncomputable section

namespace Cert.Finite

open Idealize.ShloMosaic
open Idealize.ShloMosaic.Pointwise
open Cert.KernelIdeal.Ring (IsReal)

/-- The predicate's side conditions at the kernel's shapes; -/
theorem kernelFacts : Cert.Pre_finite_scores_KernelIdeal.Facts where
  bitsLt_bf16_f32 := by decide
  bcast_S_S2x128x512 := by decide
  reducesTo_S2x128x512_S_d0_1_2 := by decide
  h_S_ := by decide
  bcast_S_S512x256 := by decide
  reducesTo_S512x256_S_d0_1 := by decide
  bcast_S_S2x128x4x64 := by decide
  reducesTo_S2x128x4x64_S_d0_1_2_3 := by decide

/-- and at the reference's. -/
theorem referenceFacts : Cert.Pre_finite_scores_ReferenceIdeal.Facts where
  bitsLt_bf16_f32 := by decide
  bcast_S_S2x4096x512 := by decide
  reducesTo_S2x4096x512_S_d0_1_2 := by decide
  h_S_ := by decide
  bcast_S_S512x256 := by decide
  reducesTo_S512x256_S_d0_1 := by decide
  bcast_S_S2x4096x4x64 := by decide
  reducesTo_S2x4096x4x64_S_d0_1_2_3 := by decide

/-- The constant the predicate compares with is infinity. -/
theorem posInf : Ideal.ofBits .f32 0x7F800000#32 = ⊤ := by
  simp [Ideal.ofBits, Ideal.ieee]

/-- An extended real whose absolute value is below infinity is a real. -/
theorem real_of_abs_lt (a : EReal) (h : Ideal.cmp .olt (max a (-a)) (Ideal.ofBits .f32 0x7F800000#32) = 1#1) : IsReal a := by
  rw [posInf] at h
  have h' : max a (-a) < ⊤ := by
    by_contra hn
    simp only [Ideal.cmp, hn, decide_false] at h
    exact absurd h (by decide)
  obtain ⟨h₁, h₂⟩ := max_lt_iff.1 h'
  induction a using EReal.rec with
  | bot => exact absurd h₂ (by simp)
  | coe r => exact ⟨r, rfl⟩
  | top => exact absurd h₁ (by simp)

/-- Where the predicate holds of a device's arguments, its block of `x`, its `Wq` and its block of `K_ext` are reals. -/
theorem real_of_pre [Cert.Pre_finite_scores_KernelIdeal.Facts]
    (a₀ : FVec Ideal Cert.Pre_finite_scores_KernelIdeal.S2x128x512 .bf16) (a₁ : FVec Ideal Cert.Pre_finite_scores_KernelIdeal.S512x256 .bf16)
    (a₂ a₃ : FVec Ideal Cert.Pre_finite_scores_KernelIdeal.S2x128x4x64 .bf16) (a₄ : FVec Ideal Cert.Pre_finite_scores_KernelIdeal.S256x512 .bf16)
    (h : Cert.Pre_finite_scores_KernelIdeal.fn (F := Ideal) a₀ a₁ a₂ a₃ a₄ = fun _ => 1#1) :
    (∀ i, IsReal (a₀ i)) ∧ (∀ i, IsReal (a₁ i)) ∧ (∀ i, IsReal (a₂ i)) := by
  have e := congrFun h ix0
  obtain ⟨e', e₂⟩ := IntOp.andi_eq_one.1 e
  obtain ⟨e₀, e₁⟩ := IntOp.andi_eq_one.1 e'
  haveI : Subsingleton (Cert.Pre_finite_scores_KernelIdeal.S_).Idx := ⟨fun i j => funext fun a => a.elim0⟩
  exact ⟨fun i => real_of_abs_lt _ (Host.reduce_andi_all _ _ _ _ _ e₀ i), fun i => real_of_abs_lt _ (Host.reduce_andi_all _ _ _ _ _ e₁ i),
    fun i => real_of_abs_lt _ (Host.reduce_andi_all _ _ _ _ _ e₂ i)⟩

end Cert.Finite

end
-- ==== Proof.Ideal.Output.lean ====
/-
# The kernel's block is the reference's block

The block that a device leaves, read at an index, is the reference's result at that position of the whole sequence.
-/
module

public import proofs.«01_k».proof.Proof.Ideal.Value
public import proofs.«01_k».proof.Proof.Ideal.Result
public import Idealize.ShloMosaic.Lib.LayoutAt

@[expose] public section

set_option maxRecDepth 16384

noncomputable section

namespace Cert.KernelIdeal.Ring

open Cert.KernelIdeal Cert.KernelIdeal.Gen
open Idealize.ShloMosaic Idealize.ShloMosaic.TcCoe
open Idealize.ShloMosaic.Pointwise
open Cert.ReferenceIdeal.Terms (scoresAt out)

/-- Where batch 0's rows lie in the block. -/
theorem row0R_emb (r : Fin 128) (o : Fin 512) : (row0R : Rect S2x128x512).emb (ix3 0 r o : S1x128x512.Idx) = ix3 0 r o := by
  funext a; apply Fin.ext
  rw [Rect.emb_apply]
  fin_cases a <;> simp [ix3]

/-- Likewise of batch 1. -/
theorem row1R_emb (r : Fin 128) (o : Fin 512) : (row1R : Rect S2x128x512).emb (ix3 0 r o : S1x128x512.Idx) = ix3 1 r o := by
  funext a; apply Fin.ext
  rw [Rect.emb_apply]
  fin_cases a <;> simp [ix3]

/-- The two batches' rows are apart. -/
theorem rows_disjoint : Disjoint (row1R : Rect S2x128x512).set row0R.set :=
  Rect.unit_disjoint (0 : Fin 3) (.inr (by decide))

/-- The block at batch 0 is the first rows; -/
theorem rows_zero (a b : Vec Ideal S1x128x512 .f32) (r : Fin 128) (o : Fin 512) : rows a b (ix3 0 r o) = a (ix3 0 r o) := by
  have h0 : (row0R : Rect S2x128x512).emb (ix3 0 r o : S1x128x512.Idx) ∉ (row1R : Rect S2x128x512).set :=
    Finset.disjoint_right.mp rows_disjoint (by rw [← Rect.map_emb_univ]; exact Finset.mem_map_of_mem _ (Finset.mem_univ _))
  rw [← row0R_emb r o]
  exact (View.canon_cons_of_not_mem (⟨row1R, b⟩ : View.Piece (Elt Ideal) S2x128x512 .f32) [⟨row0R, a⟩] h0).trans (View.canon_cons_emb row0R a [] _)

/-- at batch 1 the second. -/
theorem rows_one (a b : Vec Ideal S1x128x512 .f32) (r : Fin 128) (o : Fin 512) : rows a b (ix3 1 r o) = b (ix3 0 r o) := by
  rw [← row1R_emb r o]
  exact View.canon_cons_emb row1R b [⟨row0R, a⟩] _

/-- A block of the inputs at an index: the whole array at the block's position. -/
theorem block3_apply {α : Type} (c : Fin 32) (X : (⟨3, ![2, 4096, 512]⟩ : Shape).Idx → α) (b : Fin 2) (r : Fin 128) (t : Fin 512) :
    Layout.block ⟨3, ![2, 128, 512]⟩ ⟨3, ![2, 4096, 512]⟩ 1 32 c X (by decide) (ix3 b r t) = X (ix3 b (pos c r) t) := by
  rw [Layout.block_apply]
  refine congrArg X (funext fun a => Fin.ext ?_)
  rw [Layout.Tiles.idx_val]
  fin_cases a <;> simp [ix3, pos]

/-- Likewise of the arrays with heads. -/
theorem block4_apply {α : Type} (c : Fin 32) (K : (⟨4, ![2, 4096, 4, 64]⟩ : Shape).Idx → α) (b : Fin 2) (r : Fin 128) (h : Fin 4) (e : Fin 64) :
    Layout.block ⟨4, ![2, 128, 4, 64]⟩ ⟨4, ![2, 4096, 4, 64]⟩ 1 32 c K (by decide) (ix4 b r h e) = K (ix4 b (pos c r) h e) := by
  rw [Layout.block_apply]
  refine congrArg K (funext fun a => Fin.ext ?_)
  rw [Layout.Tiles.idx_val]
  fin_cases a <;> simp [ix4, pos]

section

variable (m : (ℓ : Loc nD τ sig) → Buf (Elt Ideal) ℓ)
variable (X : FVec Ideal Cert.ReferenceIdeal.S2x4096x512 .bf16) (W : FVec Ideal S512x256 .bf16) (K V : FVec Ideal Cert.ReferenceIdeal.S2x4096x4x64 .bf16)
variable (O : FVec Ideal S256x512 .bf16)
variable (hX : ∀ i, IsReal (X i)) (hW : ∀ i, IsReal (W i)) (hK : ∀ i, IsReal (K i))
variable (h₀ : ∀ c : Dev nD, m ((c.tc : Thread nD τ).loc main_arg0) = Layout.block ⟨3, ![2, 128, 512]⟩ ⟨3, ![2, 4096, 512]⟩ 1 32 c X)
variable (h₁ : ∀ c : Dev nD, m ((c.tc : Thread nD τ).loc main_arg1) = W)
variable (h₂ : ∀ c : Dev nD, m ((c.tc : Thread nD τ).loc main_arg2) = Layout.block ⟨4, ![2, 128, 4, 64]⟩ ⟨4, ![2, 4096, 4, 64]⟩ 1 32 c K)
variable (h₃ : ∀ c : Dev nD, m ((c.tc : Thread nD τ).loc main_arg3) = Layout.block ⟨4, ![2, 128, 4, 64]⟩ ⟨4, ![2, 4096, 4, 64]⟩ 1 32 c V)
variable (h₄ : ∀ c : Dev nD, m ((c.tc : Thread nD τ).loc main_arg4) = O)

include hX hW hK h₀ h₁ h₂ h₃ h₄ in
/-- Each device's block is its block of the reference's result. -/
theorem outAt_eq (c : Dev nD) : outAt m c = Layout.block ⟨3, ![2, 128, 512]⟩ ⟨3, ![2, 4096, 512]⟩ 1 32 c (out X W K V O) := by
  have hx : ∀ c b r t, xB m c (ix3 b r t) = X (ix3 b (pos c r) t) := fun c b r t => by
    rw [xB_eq]; exact (congrFun (h₀ c) _).trans (block3_apply c X b r t)
  have hk : ∀ c b r h e, keyB m c (ix4 b r h e) = K (ix4 b (pos c r) h e) := fun c b r h e => by
    rw [keyB_eq]; exact (congrFun (h₂ c) _).trans (block4_apply c K b r h e)
  have hv : ∀ c b r h e, valB m c (ix4 b r h e) = V (ix4 b (pos c r) h e) := fun c b r h e => by
    rw [valB_eq]; exact (congrFun (h₃ c) _).trans (block4_apply c V b r h e)
  have hw : wqB m c = W := (wqB_eq m c).trans (h₁ c)
  have ho : woB m c = O := (woB_eq m c).trans (h₄ c)
  have row : ∀ (b : Fin 2) (r : Fin 128) (o : Fin 512), batch b (k0_pay4 (xB m c) W) (k0_pay5 (keyB m c)) (k0_pay6 (valB m c)) (k0_pay51 (devWord c))
      (k0_pay52 (k0_pay2 (keyB m (tgt true c))) (k0_pay2 (keyB m (tgt false c)))) (k0_pay53 (k0_pay3 (valB m (tgt true c))) (k0_pay3 (valB m (tgt false c))))
      (k0_pay54 O) (ix3 0 r o) = out X W K V O (ix3 b (pos c r) o) := fun b r o => by
    rw [Cert.ReferenceIdeal.Terms.out_apply, wo_apply]
    refine (project_apply (headOf b _ _ _ _ _ _) O 0 r o).trans ?_
    refine Finset.sum_congr rfl fun h _ => Finset.sum_congr rfl fun d _ => congrArg (· * _) ?_
    exact head_eq X W K V hX hW hK (xB m) (keyB m) (valB m) hx hk hv c b h r d
  funext i
  obtain ⟨b, r, o, rfl⟩ : ∃ (b : Fin 2) (r : Fin 128) (o : Fin 512), i = ix3 b r o := ⟨i 0, i 1, i 2, by funext a; fin_cases a <;> rfl⟩
  rw [block3_apply, ← row]
  unfold outAt
  rw [hw, ho]
  fin_cases b
  · exact (rows_zero _ _ r o).trans (congrFun (row0_eq ..) _)
  · exact (rows_one _ _ r o).trans (congrFun (row1_eq ..) _)

end

end Cert.KernelIdeal.Ring

end
-- ==== Proof.Algebraic.lean ====
/-
# The value claim

Where the arguments that enter the scores are finite, each device's result is its block of the reference's result.
-/
module

public import proofs.«01_k».proof.Proof.Finite
public import proofs.«01_k».proof.Proof.Ideal.Output

@[expose] public section

set_option maxRecDepth 16384

noncomputable section

namespace Cert.Finite

open Idealize.ShloMosaic Idealize.SL.Sem
open Idealize.ShloMosaic.Pointwise
open Cert.KernelIdeal.Ring (IsReal pos block3_apply block4_apply outAt_eq)

/-- Every position of the sequence is a row of some device's block. -/
theorem exists_pos (q : Fin 4096) : ∃ (c : Dev Cert.KernelIdeal.nD) (r : Fin 128), pos c r = q :=
  ⟨⟨q.val / 128, by show _ < 32; omega⟩, ⟨q.val % 128, by omega⟩, Fin.ext (by simp only [Cert.KernelIdeal.Ring.pos_val]; omega)⟩

/-- An array whose blocks are reals is real. -/
theorem real_of_blocks3 (X : (⟨3, ![2, 4096, 512]⟩ : Shape).Idx → EReal)
    (h : ∀ (c : Fin 32) i, IsReal (Layout.block ⟨3, ![2, 128, 512]⟩ ⟨3, ![2, 4096, 512]⟩ 1 32 c X (by decide) i)) (i) : IsReal (X i) := by
  obtain ⟨b, q, t, rfl⟩ : ∃ (b : Fin 2) (q : Fin 4096) (t : Fin 512), i = ix3 b q t := ⟨i 0, i 1, i 2, by funext a; fin_cases a <;> rfl⟩
  obtain ⟨c, r, rfl⟩ := exists_pos q
  exact block3_apply c X b r t ▸ h c _

/-- Likewise of the arrays with heads. -/
theorem real_of_blocks4 (K : (⟨4, ![2, 4096, 4, 64]⟩ : Shape).Idx → EReal)
    (h : ∀ (c : Fin 32) i, IsReal (Layout.block ⟨4, ![2, 128, 4, 64]⟩ ⟨4, ![2, 4096, 4, 64]⟩ 1 32 c K (by decide) i)) (i) : IsReal (K i) := by
  obtain ⟨b, q, n, e, rfl⟩ : ∃ (b : Fin 2) (q : Fin 4096) (n : Fin 4) (e : Fin 64), i = ix4 b q n e :=
    ⟨i 0, i 1, i 2, i 3, by funext a; fin_cases a <;> rfl⟩
  obtain ⟨c, r, rfl⟩ := exists_pos q
  exact block4_apply c K b r n e ▸ h c _

/-- The value claim. -/
theorem algebraic : Cert.algebraic_KernelIdeal_ReferenceIdeal_pre_finite_scores_KernelIdeal
    (hKernelIdeal := Cert.KernelIdeal.Gen.facts) (hReferenceIdeal := Cert.ReferenceIdeal.Gen.facts)
    (hPre_finite_scores_KernelIdeal := kernelFacts) := fun m g m' g' hpre hin => by
  letI := kernelFacts
  have hreal := fun c => real_of_pre _ _ _ _ _ (hpre c)
  refine ⟨Cert.ReferenceIdeal.Value.res_main_v43 m' 0, ?_, ?_⟩
  · refine (θ_run _ _ _).mono (fun r h c => ?_) (Cert.KernelIdeal.Ring.run (F := Ideal) m g)
    obtain ⟨hout, hargs⟩ := h.1 c
    refine ⟨hout.trans ?_, hargs⟩
    rw [Cert.ReferenceIdeal.Terms.result_eq]
    refine outAt_eq m _ _ _ _ _ ?_ ?_ ?_ (fun c => (hin c).1) (fun c => (hin c).2.1) (fun c => (hin c).2.2.1) (fun c => (hin c).2.2.2.1)
      (fun c => (hin c).2.2.2.2) c
    · exact real_of_blocks3 _ fun c i => (hin c).1 ▸ (hreal c).1 i
    · exact fun i => (hin 0).2.1 ▸ (hreal 0).2.1 i
    · exact real_of_blocks4 _ fun c i => (hin c).2.2.1 ▸ (hreal c).2.2 i
  · exact (θ_run _ _ _).mono (fun r h => h 0) (Cert.ReferenceIdeal.Value.run (F := Ideal) m' g')

end Cert.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate's claims. The frames that state the predicate hold without it. -/
theorem claim : Cert.Claim := ⟨Cert.Kernel.Gen.facts, Cert.KernelIdeal.Gen.facts, Cert.ReferenceIdeal.Gen.facts,
  Cert.Finite.kernelFacts, Cert.Finite.referenceFacts,
  Cert.Frames.kernel, Cert.Frames.kernelIdeal, fun m g _ => Cert.Frames.kernelIdeal m g trivial,
  Cert.Frames.referenceIdeal, fun m g _ => Cert.Frames.referenceIdeal m g trivial, Cert.Frames.named, Cert.Finite.algebraic⟩

end Cert.Proof

end
